-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)
  ∧ IdealRules.named_const.Statement Cert.KernelIdeal.κ "mask" .f32 0xF149F2CA#32 ⊥
  ∧ IdealRules.named_const.Statement Cert.KernelIdeal.κ "big" .f32 0x7149F2CA#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x2048 : Shape := ⟨3, ![1, 2048, 2048]⟩
abbrev S2048x128 : Shape := ⟨2, ![2048, 128]⟩
abbrev S32x128 : Shape := ⟨2, ![32, 128]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩
abbrev S256x128 : Shape := ⟨2, ![256, 128]⟩
abbrev S_ : Shape := ⟨0, ![]⟩

class Facts : Prop where
  bcast_S_S1x2048x2048 : S_.BroadcastsInDim S1x2048x2048 (![] : Fin 0 → Fin S1x2048x2048.rank)
  bcast_S_S2048x128 : S_.BroadcastsInDim S2048x128 (![] : Fin 0 → Fin S2048x128.rank)
  bcast_S_S2048x2048 : S_.BroadcastsInDim S2048x2048 (![] : Fin 0 → Fin S2048x2048.rank)
  bcast_S_S2048 : S_.BroadcastsInDim S2048 (![] : Fin 0 → Fin S2048.rank)
  bcast_S_S2048x512 : S_.BroadcastsInDim S2048x512 (![] : Fin 0 → Fin S2048x512.rank)
  bcast_S_S512 : S_.BroadcastsInDim S512 (![] : Fin 0 → Fin S512.rank)

variable [Facts]

def fn_part1 {F : FTy → Type} [FloatOps F] (main_arg8 : FVec F S512 .f32) (main_v2 : IVec S1x2048x2048 1) (main_v5 : IVec S2048x128 1) (main_v8 : IVec S2048x128 1) (main_v11 : IVec S2048x2048 1) (main_v14 : IVec S2048 1) (main_v17 : IVec S2048x512 1) : IVec S1x2048x2048 1 × IVec S2048x128 1 × IVec S2048x128 1 × IVec S2048x2048 1 × IVec S2048 1 × IVec S2048x512 1 × IVec S512 1 :=
  let main_v18 : FVec F S512 .f32 := Host.absf main_arg8
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  (main_v2, main_v5, main_v8, main_v11, main_v14, main_v17, main_v20)

def fn {F : FTy → Type} [FloatOps F] (main_arg0 : FVec F S1x2048x2048 .f32) (main_arg1 : FVec F S2048x128 .f32) (main_arg2 : FVec F S2048x128 .f32) (main_arg3 : FVec F S32x128 .f32) (main_arg4 : FVec F S32x128 .f32) (main_arg5 : FVec F S2048x2048 .f32) (main_arg6 : FVec F S2048 .f32) (main_arg7 : FVec F S2048x512 .f32) (main_arg8 : FVec F S512 .f32) (main_arg9 : FVec F S2048x512 .f32) (main_arg10 : FVec F S512 .f32) (main_arg11 : FVec F S2048x2048 .f32) (main_arg12 : FVec F S256x128 .f32) (main_arg13 : FVec F S256x128 .f32) : IVec S1x2048x2048 1 × IVec S2048x128 1 × IVec S2048x128 1 × IVec S2048x2048 1 × IVec S2048 1 × IVec S2048x512 1 × IVec S512 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S2048x128 .f32 := Host.absf main_arg1
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : FVec F S2048x128 .f32 := Host.absf main_arg2
  let main_cst_1 : FVec F S_ .f32 := constant S_ .f32 0x7F800000#32
  let main_v7 : FVec F S2048x128 .f32 := broadcastInDim S2048x128 ![] bcast_S_S2048x128 main_cst_1
  let main_v8 : IVec S2048x128 1 := cmpf .olt main_v6 main_v7
  let main_v9 : FVec F S2048x2048 .f32 := Host.absf main_arg5
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048 .f32 := Host.absf main_arg6
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  let main_v15 : FVec F S2048x512 .f32 := Host.absf main_arg7
  let main_cst_4 : FVec F S_ .f32 := constant S_ .f32 0x7F800000#32
  let main_v16 : FVec F S2048x512 .f32 := broadcastInDim S2048x512 ![] bcast_S_S2048x512 main_cst_4
  let main_v17 : IVec S2048x512 1 := cmpf .olt main_v15 main_v16
  fn_part1 (F := F) main_arg8 main_v2 main_v5 main_v8 main_v11 main_v14 main_v17
-- ==== Kernel.lean ====
abbrev S1x2048x2048 : Shape := ⟨3, ![1, 2048, 2048]⟩
abbrev S2048x128 : Shape := ⟨2, ![2048, 128]⟩
abbrev S32x128 : Shape := ⟨2, ![32, 128]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩
abbrev S256x128 : Shape := ⟨2, ![256, 128]⟩
abbrev S2048x3072 : Shape := ⟨2, ![2048, 3072]⟩
abbrev S3072 : Shape := ⟨1, ![3072]⟩
abbrev S1x3072 : Shape := ⟨2, ![1, 3072]⟩
abbrev S16x2048x128 : Shape := ⟨3, ![16, 2048, 128]⟩
abbrev S4x2048x128 : Shape := ⟨3, ![4, 2048, 128]⟩
abbrev S32x16x256 : Shape := ⟨3, ![32, 16, 256]⟩
abbrev S32x4x256 : Shape := ⟨3, ![32, 4, 256]⟩
abbrev S256x2048 : Shape := ⟨2, ![256, 2048]⟩
abbrev S16x256x128 : Shape := ⟨3, ![16, 256, 128]⟩
abbrev S4x256x128 : Shape := ⟨3, ![4, 256, 128]⟩
abbrev S4x16x256 : Shape := ⟨3, ![4, 16, 256]⟩
abbrev S4x4x256 : Shape := ⟨3, ![4, 4, 256]⟩
abbrev S256x3072 : Shape := ⟨2, ![256, 3072]⟩
abbrev S4x64x128 : Shape := ⟨3, ![4, 64, 128]⟩
abbrev S4x128 : Shape := ⟨2, ![4, 128]⟩
abbrev S4x1x128 : Shape := ⟨3, ![4, 1, 128]⟩
abbrev S256x64 : Shape := ⟨2, ![256, 64]⟩
abbrev S1x256x128 : Shape := ⟨3, ![1, 256, 128]⟩
abbrev S32x2048 : Shape := ⟨2, ![32, 2048]⟩
abbrev S_ : Shape := ⟨0, ![]⟩
abbrev S16x2048x32 : Shape := ⟨3, ![16, 2048, 32]⟩
abbrev S512x256 : Shape := ⟨2, ![512, 256]⟩
abbrev S512x128 : Shape := ⟨2, ![512, 128]⟩
abbrev S32x16x128 : Shape := ⟨3, ![32, 16, 128]⟩
abbrev S128x256 : Shape := ⟨2, ![128, 256]⟩
abbrev S128x128 : Shape := ⟨2, ![128, 128]⟩
abbrev S32x4x128 : Shape := ⟨3, ![32, 4, 128]⟩
abbrev S32x1x128 : Shape := ⟨3, ![32, 1, 128]⟩
abbrev S32x16x64 : Shape := ⟨3, ![32, 16, 64]⟩
abbrev S32x4x64 : Shape := ⟨3, ![32, 4, 64]⟩
abbrev S32x32 : Shape := ⟨2, ![32, 32]⟩
abbrev S32 : Shape := ⟨1, ![32]⟩
abbrev S32x1 : Shape := ⟨2, ![32, 1]⟩
abbrev S2048x32 : Shape := ⟨2, ![2048, 32]⟩
abbrev S1x2048x32 : Shape := ⟨3, ![1, 2048, 32]⟩
abbrev S16x128x2048 : Shape := ⟨3, ![16, 128, 2048]⟩
abbrev S1x2048x128 : Shape := ⟨3, ![1, 2048, 128]⟩
abbrev S1x128x256 : Shape := ⟨3, ![1, 128, 256]⟩
abbrev S32x256 : Shape := ⟨2, ![32, 256]⟩
abbrev S256x256 : Shape := ⟨2, ![256, 256]⟩
abbrev S1x256 : Shape := ⟨2, ![1, 256]⟩
abbrev S1x256x32 : Shape := ⟨3, ![1, 256, 32]⟩
abbrev S256x32 : Shape := ⟨2, ![256, 32]⟩
abbrev S256 : Shape := ⟨1, ![256]⟩
abbrev S16x128x256 : Shape := ⟨3, ![16, 128, 256]⟩
abbrev S2048x256 : Shape := ⟨2, ![2048, 256]⟩

abbrev nBuf : Space → Nat
  | .hbm => 50
  | .vmem => 41
  | .smem => 0
  | _ => 0

abbrev bufTy : (tb : Table) → Fin (tcTables nBuf tb) → BufTy
  | .hbm, ⟨0, _⟩ => ⟨S1x2048x2048, .f32⟩
  | .hbm, ⟨1, _⟩ => ⟨S2048x128, .f32⟩
  | .hbm, ⟨2, _⟩ => ⟨S2048x128, .f32⟩
  | .hbm, ⟨3, _⟩ => ⟨S32x128, .f32⟩
  | .hbm, ⟨4, _⟩ => ⟨S32x128, .f32⟩
  | .hbm, ⟨5, _⟩ => ⟨S2048x2048, .f32⟩
  | .hbm, ⟨6, _⟩ => ⟨S2048, .f32⟩
  | .hbm, ⟨7, _⟩ => ⟨S2048x512, .f32⟩
  | .hbm, ⟨8, _⟩ => ⟨S512, .f32⟩
  | .hbm, ⟨9, _⟩ => ⟨S2048x512, .f32⟩
  | .hbm, ⟨10, _⟩ => ⟨S512, .f32⟩
  | .hbm, ⟨11, _⟩ => ⟨S2048x2048, .f32⟩
  | .hbm, ⟨12, _⟩ => ⟨S256x128, .f32⟩
  | .hbm, ⟨13, _⟩ => ⟨S256x128, .f32⟩
  | .hbm, ⟨14, _⟩ => ⟨S2048x2048, .f32⟩
  | .hbm, ⟨15, _⟩ => ⟨S2048x3072, .f32⟩
  | .hbm, ⟨16, _⟩ => ⟨S3072, .f32⟩
  | .hbm, ⟨17, _⟩ => ⟨S1x3072, .f32⟩
  | .hbm, ⟨18, _⟩ => ⟨S16x2048x128, .bf16⟩
  | .hbm, ⟨19, _⟩ => ⟨S4x2048x128, .bf16⟩
  | .hbm, ⟨20, _⟩ => ⟨S4x2048x128, .bf16⟩
  | .hbm, ⟨21, _⟩ => ⟨S32x16x256, .f32⟩
  | .hbm, ⟨22, _⟩ => ⟨S32x4x256, .f32⟩
  | .hbm, ⟨23, _⟩ => ⟨S32x2048, .i32⟩
  | .hbm, ⟨24, _⟩ => ⟨S_, .i32⟩
  | .hbm, ⟨25, _⟩ => ⟨S_, .i32⟩
  | .hbm, ⟨26, _⟩ => ⟨S32x2048, .i32⟩
  | .hbm, ⟨27, _⟩ => ⟨S32x2048, .i32⟩
  | .hbm, ⟨28, _⟩ => ⟨S32x2048, .i32⟩
  | .hbm, ⟨29, _⟩ => ⟨S_, .i32⟩
  | .hbm, ⟨30, _⟩ => ⟨S32x2048, .i32⟩
  | .hbm, ⟨31, _⟩ => ⟨S32x2048, .i1⟩
  | .hbm, ⟨32, _⟩ => ⟨S32x2048, .i32⟩
  | .hbm, ⟨33, _⟩ => ⟨S32x2048, .i32⟩
  | .hbm, ⟨34, _⟩ => ⟨S_, .i32⟩
  | .hbm, ⟨35, _⟩ => ⟨S32x2048, .i32⟩
  | .hbm, ⟨36, _⟩ => ⟨S32x2048, .i1⟩
  | .hbm, ⟨37, _⟩ => ⟨S32x2048, .i1⟩
  | .hbm, ⟨38, _⟩ => ⟨S_, .i32⟩
  | .hbm, ⟨39, _⟩ => ⟨S32x2048, .i32⟩
  | .hbm, ⟨40, _⟩ => ⟨S32x2048, .i32⟩
  | .hbm, ⟨41, _⟩ => ⟨S32x2048, .i32⟩
  | .hbm, ⟨42, _⟩ => ⟨S32x2048, .i32⟩
  | .hbm, ⟨43, _⟩ => ⟨S32x2048, .i1⟩
  | .hbm, ⟨44, _⟩ => ⟨S32x2048, .f32⟩
  | .hbm, ⟨45, _⟩ => ⟨S16x2048x32, .bf16⟩
  | .hbm, ⟨46, _⟩ => ⟨S16x128x2048, .bf16⟩
  | .hbm, ⟨47, _⟩ => ⟨S2048x2048, .bf16⟩
  | .hbm, ⟨48, _⟩ => ⟨S2048x2048, .f32⟩
  | .hbm, ⟨49, _⟩ => ⟨S1x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x3072, .f32⟩
  | .local _ .vmem, ⟨3, _⟩ => ⟨S1x3072, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S16x256x128, .bf16⟩
  | .local _ .vmem, ⟨9, _⟩ => ⟨S16x256x128, .bf16⟩
  | .local _ .vmem, ⟨10, _⟩ => ⟨S4x256x128, .bf16⟩
  | .local _ .vmem, ⟨11, _⟩ => ⟨S4x256x128, .bf16⟩
  | .local _ .vmem, ⟨12, _⟩ => ⟨S4x256x128, .bf16⟩
  | .local _ .vmem, ⟨13, _⟩ => ⟨S4x256x128, .bf16⟩
  | .local _ .vmem, ⟨14, _⟩ => ⟨S4x16x256, .f32⟩
  | .local _ .vmem, ⟨15, _⟩ => ⟨S4x16x256, .f32⟩
  | .local _ .vmem, ⟨16, _⟩ => ⟨S4x4x256, .f32⟩
  | .local _ .vmem, ⟨17, _⟩ => ⟨S4x4x256, .f32⟩
  | .local _ .vmem, ⟨18, _⟩ => ⟨S32x16x256, .f32⟩
  | .local _ .vmem, ⟨19, _⟩ => ⟨S32x4x256, .f32⟩
  | .local _ .vmem, ⟨20, _⟩ => ⟨S256x128, .f32⟩
  | .local _ .vmem, ⟨21, _⟩ => ⟨S256x128, .f32⟩
  | .local _ .vmem, ⟨22, _⟩ => ⟨S32x128, .f32⟩
  | .local _ .vmem, ⟨23, _⟩ => ⟨S32x128, .f32⟩
  | .local _ .vmem, ⟨24, _⟩ => ⟨S32x2048, .f32⟩
  | .local _ .vmem, ⟨25, _⟩ => ⟨S16x2048x32, .bf16⟩
  | .local _ .vmem, ⟨26, _⟩ => ⟨S1x256x128, .bf16⟩
  | .local _ .vmem, ⟨27, _⟩ => ⟨S1x256x128, .bf16⟩
  | .local _ .vmem, ⟨28, _⟩ => ⟨S1x2048x128, .bf16⟩
  | .local _ .vmem, ⟨29, _⟩ => ⟨S1x2048x128, .bf16⟩
  | .local _ .vmem, ⟨30, _⟩ => ⟨S1x2048x128, .bf16⟩
  | .local _ .vmem, ⟨31, _⟩ => ⟨S1x2048x128, .bf16⟩
  | .local _ .vmem, ⟨32, _⟩ => ⟨S1x2048x32, .bf16⟩
  | .local _ .vmem, ⟨33, _⟩ => ⟨S1x2048x32, .bf16⟩
  | .local _ .vmem, ⟨34, _⟩ => ⟨S1x128x256, .bf16⟩
  | .local _ .vmem, ⟨35, _⟩ => ⟨S1x128x256, .bf16⟩
  | .local _ .vmem, ⟨36, _⟩ => ⟨S16x128x256, .bf16⟩
  | .local _ .vmem, ⟨37, _⟩ => ⟨S16x128x256, .bf16⟩
  | .local _ .vmem, ⟨38, _⟩ => ⟨S2048x2048, .bf16⟩
  | .local _ .vmem, ⟨39, _⟩ => ⟨S256x2048, .f32⟩
  | .local _ .vmem, ⟨40, _⟩ => ⟨S256x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev main_v4_4 : Ref sig .tc := ⟨.hbm, 22, rfl⟩
abbrev main_v5 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg2_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem2_1 : DmaSem sig := 40

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x4x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := .none

abbrev stage1_0 : Fin 1 → Memref sig .tc .vmem S32x16x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x4x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S32x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S32x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S32x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16x2048x32 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev grid2 : Pipeline.Grid := ⟨2, ![16, 8], ![false, false]⟩

@[reducible] def k2_t1_loop (i : grid2.Coords) : Scf.Loop 32 :=
  let c1_i32_17 : BitVec 32 := 1#32
  let arg1 : BitVec 32 := BitVec.ofNat 32 (i 1).val
  let c1_i32_8 : BitVec 32 := 1#32
  let v43 : BitVec 32 := Scalar.addi arg1 c1_i32_8
  let v51 : BitVec 32 := Scalar.subi v43 c1_i32_17
  let c1_i32_18 : BitVec 32 := 1#32
  let v53 : BitVec 32 := Scalar.divsi v51 c1_i32_18
  let v54 : BitVec 32 := Scalar.muli v53 c1_i32_18
  let v55 : BitVec 32 := Scalar.addi c1_i32_17 v54
  let c1_i32_19 : BitVec 32 := 1#32
  ⟨c1_i32_17, v55, c1_i32_19⟩
def k2_off1 (i : grid2.Coords) (k2_t1 : Fin (k2_t1_loop i).trips) : Fin 3 → Nat :=
  let c0_33 : Index := 0#32
  let c1_i32_17 : BitVec 32 := 1#32
  let c1_i32_19 : BitVec 32 := 1#32
  let arg7 : BitVec 32 := Scf.iv c1_i32_17 c1_i32_19 k2_t1
  let c256_i32_32 : BitVec 32 := 256#32
  let v91 : BitVec 32 := Scalar.muli arg7 c256_i32_32
  let v92 : Index := Scalar.indexCast v91
  let c0_34 : Index := 0#32
  ![0, v92.toNat, 0]
def k2_off2 (i : grid2.Coords) (k2_t1 : Fin (k2_t1_loop i).trips) : Fin 3 → Nat :=
  let c0_37 : Index := 0#32
  let c1_i32_17 : BitVec 32 := 1#32
  let c1_i32_19 : BitVec 32 := 1#32
  let arg7 : BitVec 32 := Scf.iv c1_i32_17 c1_i32_19 k2_t1
  let c256_i32_36 : BitVec 32 := 256#32
  let v96 : BitVec 32 := Scalar.muli arg7 c256_i32_36
  let v97 : Index := Scalar.indexCast v96
  let c0_38 : Index := 0#32
  ![0, v97.toNat, 0]
def k2_off3 (i : grid2.Coords) (k2_t1 : Fin (k2_t1_loop i).trips) : Fin 3 → Nat :=
  let c0_44 : Index := 0#32
  let c1_i32_17 : BitVec 32 := 1#32
  let c1_i32_19 : BitVec 32 := 1#32
  let arg7 : BitVec 32 := Scf.iv c1_i32_17 c1_i32_19 k2_t1
  let c1_i32_40 : BitVec 32 := 1#32
  let v102 : BitVec 32 := Scalar.subi arg7 c1_i32_40
  let c256_i32_43 : BitVec 32 := 256#32
  let v115 : BitVec 32 := Scalar.muli v102 c256_i32_43
  let v116 : Index := Scalar.indexCast v115
  let c0_45 : Index := 0#32
  ![0, v116.toNat, 0]
@[reducible] def k2_t2_loop (i : grid2.Coords) : Scf.Loop 32 :=
  let c1_i32_17 : BitVec 32 := 1#32
  let arg1 : BitVec 32 := BitVec.ofNat 32 (i 1).val
  let c1_i32_8 : BitVec 32 := 1#32
  let v43 : BitVec 32 := Scalar.addi arg1 c1_i32_8
  let v51 : BitVec 32 := Scalar.subi v43 c1_i32_17
  let c1_i32_18 : BitVec 32 := 1#32
  let v53 : BitVec 32 := Scalar.divsi v51 c1_i32_18
  let v54 : BitVec 32 := Scalar.muli v53 c1_i32_18
  let v55 : BitVec 32 := Scalar.addi c1_i32_17 v54
  let v52 : BitVec 32 := Scalar.addi c1_i32_17 v51
  let c1_i32_20 : BitVec 32 := 1#32
  ⟨v55, v52, c1_i32_20⟩
def k2_off4 (i : grid2.Coords) (k2_t2 : Fin (k2_t2_loop i).trips) : Fin 3 → Nat :=
  let c0_33 : Index := 0#32
  let c1_i32_17 : BitVec 32 := 1#32
  let arg1 : BitVec 32 := BitVec.ofNat 32 (i 1).val
  let c1_i32_8 : BitVec 32 := 1#32
  let v43 : BitVec 32 := Scalar.addi arg1 c1_i32_8
  let v51 : BitVec 32 := Scalar.subi v43 c1_i32_17
  let c1_i32_18 : BitVec 32 := 1#32
  let v53 : BitVec 32 := Scalar.divsi v51 c1_i32_18
  let v54 : BitVec 32 := Scalar.muli v53 c1_i32_18
  let v55 : BitVec 32 := Scalar.addi c1_i32_17 v54
  let c1_i32_20 : BitVec 32 := 1#32
  let arg7 : BitVec 32 := Scf.iv v55 c1_i32_20 k2_t2
  let c256_i32_32 : BitVec 32 := 256#32
  let v91 : BitVec 32 := Scalar.muli arg7 c256_i32_32
  let v92 : Index := Scalar.indexCast v91
  let c0_34 : Index := 0#32
  ![0, v92.toNat, 0]
def k2_off5 (i : grid2.Coords) (k2_t2 : Fin (k2_t2_loop i).trips) : Fin 3 → Nat :=
  let c0_37 : Index := 0#32
  let c1_i32_17 : BitVec 32 := 1#32
  let arg1 : BitVec 32 := BitVec.ofNat 32 (i 1).val
  let c1_i32_8 : BitVec 32 := 1#32
  let v43 : BitVec 32 := Scalar.addi arg1 c1_i32_8
  let v51 : BitVec 32 := Scalar.subi v43 c1_i32_17
  let c1_i32_18 : BitVec 32 := 1#32
  let v53 : BitVec 32 := Scalar.divsi v51 c1_i32_18
  let v54 : BitVec 32 := Scalar.muli v53 c1_i32_18
  let v55 : BitVec 32 := Scalar.addi c1_i32_17 v54
  let c1_i32_20 : BitVec 32 := 1#32
  let arg7 : BitVec 32 := Scf.iv v55 c1_i32_20 k2_t2
  let c256_i32_36 : BitVec 32 := 256#32
  let v96 : BitVec 32 := Scalar.muli arg7 c256_i32_36
  let v97 : Index := Scalar.indexCast v96
  let c0_38 : Index := 0#32
  ![0, v97.toNat, 0]
def k2_off6 (i : grid2.Coords) (k2_t2 : Fin (k2_t2_loop i).trips) : Fin 3 → Nat :=
  let c0_44 : Index := 0#32
  let c1_i32_17 : BitVec 32 := 1#32
  let arg1 : BitVec 32 := BitVec.ofNat 32 (i 1).val
  let c1_i32_8 : BitVec 32 := 1#32
  let v43 : BitVec 32 := Scalar.addi arg1 c1_i32_8
  let v51 : BitVec 32 := Scalar.subi v43 c1_i32_17
  let c1_i32_18 : BitVec 32 := 1#32
  let v53 : BitVec 32 := Scalar.divsi v51 c1_i32_18
  let v54 : BitVec 32 := Scalar.muli v53 c1_i32_18
  let v55 : BitVec 32 := Scalar.addi c1_i32_17 v54
  let c1_i32_20 : BitVec 32 := 1#32
  let arg7 : BitVec 32 := Scf.iv v55 c1_i32_20 k2_t2
  let c1_i32_40 : BitVec 32 := 1#32
  let v102 : BitVec 32 := Scalar.subi arg7 c1_i32_40
  let c256_i32_43 : BitVec 32 := 256#32
  let v115 : BitVec 32 := Scalar.muli v102 c256_i32_43
  let v116 : Index := Scalar.indexCast v115
  let c0_45 : Index := 0#32
  ![0, v116.toNat, 0]
def k2_off7 (i : grid2.Coords) : Fin 3 → Nat :=
  let c0_26 : Index := 0#32
  let arg1 : BitVec 32 := BitVec.ofNat 32 (i 1).val
  let c256_i32_25 : BitVec 32 := 256#32
  let v76 : BitVec 32 := Scalar.muli arg1 c256_i32_25
  let v77 : Index := Scalar.indexCast v76
  let c0_27 : Index := 0#32
  ![0, v77.toNat, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_2 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x256x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x2048x32 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x128x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16x128x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== KernelIdeal.lean ====
variable {F : FTy → Type} [FloatOps F] [Named F]
def κ : String → Option EReal := fun
  | "big" => some ⊤
  | "mask" => some ⊥
  | "qscale" => some (((Real.sqrt 128)⁻¹ * (Real.log 2)⁻¹ : ℝ) : EReal)
  | _ => none
-- ==== ReferenceIdeal.lean ====
abbrev S1x2048x2048 : Shape := ⟨3, ![1, 2048, 2048]⟩
abbrev S2048x128 : Shape := ⟨2, ![2048, 128]⟩
abbrev S32x128 : Shape := ⟨2, ![32, 128]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩
abbrev S256x128 : Shape := ⟨2, ![256, 128]⟩
abbrev S1x1x2048 : Shape := ⟨3, ![1, 1, 2048]⟩
abbrev S1x2048x16x128 : Shape := ⟨4, ![1, 2048, 16, 128]⟩
abbrev S1x2048x512 : Shape := ⟨3, ![1, 2048, 512]⟩
abbrev S1x1x512 : Shape := ⟨3, ![1, 1, 512]⟩
abbrev S1x2048x4x128 : Shape := ⟨4, ![1, 2048, 4, 128]⟩
abbrev S1x32x64x16x128 : Shape := ⟨5, ![1, 32, 64, 16, 128]⟩
abbrev S_ : Shape := ⟨0, ![]⟩
abbrev S1x32x16x128 : Shape := ⟨4, ![1, 32, 16, 128]⟩
abbrev S1x32x16x256 : Shape := ⟨4, ![1, 32, 16, 256]⟩
abbrev S1x32x64x4x128 : Shape := ⟨5, ![1, 32, 64, 4, 128]⟩
abbrev S1x32x4x128 : Shape := ⟨4, ![1, 32, 4, 128]⟩
abbrev S1x32x4x256 : Shape := ⟨4, ![1, 32, 4, 256]⟩
abbrev S1x32x1x128 : Shape := ⟨4, ![1, 32, 1, 128]⟩
abbrev S1x32x16x64 : Shape := ⟨4, ![1, 32, 16, 64]⟩
abbrev S1x32x4x64 : Shape := ⟨4, ![1, 32, 4, 64]⟩
abbrev S1x32x4x4x128 : Shape := ⟨5, ![1, 32, 4, 4, 128]⟩
abbrev S1x16x32x32 : Shape := ⟨4, ![1, 16, 32, 32]⟩
abbrev S32x32 : Shape := ⟨2, ![32, 32]⟩
abbrev S1x1x32x32 : Shape := ⟨4, ![1, 1, 32, 32]⟩
abbrev S1x16x32 : Shape := ⟨3, ![1, 16, 32]⟩
abbrev S1x16x32x1 : Shape := ⟨4, ![1, 16, 32, 1]⟩
abbrev S1x16x32x64x32 : Shape := ⟨5, ![1, 16, 32, 64, 32]⟩
abbrev S1x16x2048x32 : Shape := ⟨4, ![1, 16, 2048, 32]⟩
abbrev S1x16x2048x32x64 : Shape := ⟨5, ![1, 16, 2048, 32, 64]⟩
abbrev S1x16x2048x2048 : Shape := ⟨4, ![1, 16, 2048, 2048]⟩
abbrev S1x1x2048x2048 : Shape := ⟨4, ![1, 1, 2048, 2048]⟩
abbrev S1x2048x1x128 : Shape := ⟨4, ![1, 2048, 1, 128]⟩
abbrev S1x2048x16x64 : Shape := ⟨4, ![1, 2048, 16, 64]⟩
abbrev S1x2048x4x64 : Shape := ⟨4, ![1, 2048, 4, 64]⟩
abbrev S1x2048x4x4x128 : Shape := ⟨5, ![1, 2048, 4, 4, 128]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩

abbrev nBuf : Space → Nat
  | .hbm => 191
  | .vmem => 0
  | .smem => 0
  | _ => 0

abbrev hbmTy0_0 (i : Nat) : BufTy := match i % 128 with
  | 0 => ⟨S1x2048x2048, .f32⟩
  | 1 => ⟨S2048x128, .f32⟩
  | 2 => ⟨S2048x128, .f32⟩
  | 3 => ⟨S32x128, .f32⟩
  | 4 => ⟨S32x128, .f32⟩
  | 5 => ⟨S2048x2048, .f32⟩
  | 6 => ⟨S2048, .f32⟩
  | 7 => ⟨S2048x512, .f32⟩
  | 8 => ⟨S512, .f32⟩
  | 9 => ⟨S2048x512, .f32⟩
  | 10 => ⟨S512, .f32⟩
  | 11 => ⟨S2048x2048, .f32⟩
  | 12 => ⟨S256x128, .f32⟩
  | 13 => ⟨S256x128, .f32⟩
  | 14 => ⟨S1x2048x2048, .f32⟩
  | 15 => ⟨S1x1x2048, .f32⟩
  | 16 => ⟨S1x2048x2048, .f32⟩
  | 17 => ⟨S1x2048x2048, .f32⟩
  | 18 => ⟨S1x2048x16x128, .f32⟩
  | 19 => ⟨S1x2048x512, .f32⟩
  | 20 => ⟨S1x1x512, .f32⟩
  | 21 => ⟨S1x2048x512, .f32⟩
  | 22 => ⟨S1x2048x512, .f32⟩
  | 23 => ⟨S1x2048x4x128, .f32⟩
  | 24 => ⟨S1x2048x512, .f32⟩
  | 25 => ⟨S1x1x512, .f32⟩
  | 26 => ⟨S1x2048x512, .f32⟩
  | 27 => ⟨S1x2048x512, .f32⟩
  | 28 => ⟨S1x2048x4x128, .f32⟩
  | 29 => ⟨S1x32x64x16x128, .f32⟩
  | 30 => ⟨S_, .f32⟩
  | 31 => ⟨S1x32x16x128, .f32⟩
  | 32 => ⟨S_, .f32⟩
  | 33 => ⟨S1x32x16x128, .f32⟩
  | 34 => ⟨S1x32x16x128, .f32⟩
  | 35 => ⟨S_, .f32⟩
  | 36 => ⟨S1x32x16x128, .f32⟩
  | 37 => ⟨S1x32x16x256, .f32⟩
  | 38 => ⟨S1x32x64x4x128, .f32⟩
  | 39 => ⟨S_, .f32⟩
  | 40 => ⟨S1x32x4x128, .f32⟩
  | 41 => ⟨S_, .f32⟩
  | 42 => ⟨S1x32x4x128, .f32⟩
  | 43 => ⟨S1x32x4x128, .f32⟩
  | 44 => ⟨S_, .f32⟩
  | 45 => ⟨S1x32x4x128, .f32⟩
  | 46 => ⟨S1x32x4x256, .f32⟩
  | 47 => ⟨S1x32x16x128, .f32⟩
  | 48 => ⟨S1x32x4x128, .f32⟩
  | 49 => ⟨S1x32x1x128, .f32⟩
  | 50 => ⟨S1x32x1x128, .f32⟩
  | 51 => ⟨S1x32x16x128, .f32⟩
  | 52 => ⟨S1x32x16x128, .f32⟩
  | 53 => ⟨S1x32x16x64, .f32⟩
  | 54 => ⟨S1x32x16x64, .f32⟩
  | 55 => ⟨S1x32x16x64, .f32⟩
  | 56 => ⟨S1x32x16x128, .f32⟩
  | 57 => ⟨S1x32x16x128, .f32⟩
  | 58 => ⟨S1x32x16x128, .f32⟩
  | 59 => ⟨S1x32x16x128, .f32⟩
  | 60 => ⟨S1x32x4x128, .f32⟩
  | 61 => ⟨S1x32x4x128, .f32⟩
  | 62 => ⟨S1x32x4x64, .f32⟩
  | 63 => ⟨S1x32x4x64, .f32⟩
  | 64 => ⟨S1x32x4x64, .f32⟩
  | 65 => ⟨S1x32x4x128, .f32⟩
  | 66 => ⟨S1x32x4x128, .f32⟩
  | 67 => ⟨S1x32x4x128, .f32⟩
  | 68 => ⟨S1x32x4x128, .f32⟩
  | 69 => ⟨S1x32x4x4x128, .f32⟩
  | 70 => ⟨S1x32x16x128, .f32⟩
  | 71 => ⟨S1x16x32x32, .f32⟩
  | 72 => ⟨S_, .f32⟩
  | 73 => ⟨S_, .f32⟩
  | 74 => ⟨S1x16x32x32, .f32⟩
  | 75 => ⟨S1x16x32x32, .f32⟩
  | 76 => ⟨S_, .i1⟩
  | 77 => ⟨S32x32, .i1⟩
  | 78 => ⟨S32x32, .i32⟩
  | 79 => ⟨S_, .i32⟩
  | 80 => ⟨S32x32, .i32⟩
  | 81 => ⟨S32x32, .i32⟩
  | 82 => ⟨S32x32, .i32⟩
  | 83 => ⟨S32x32, .i1⟩
  | 84 => ⟨S_, .i1⟩
  | 85 => ⟨S32x32, .i1⟩
  | 86 => ⟨S32x32, .i1⟩
  | 87 => ⟨S1x1x32x32, .i1⟩
  | 88 => ⟨S_, .f32⟩
  | 89 => ⟨S_, .f32⟩
  | 90 => ⟨S1x16x32x32, .i1⟩
  | 91 => ⟨S1x16x32x32, .f32⟩
  | 92 => ⟨S1x16x32x32, .f32⟩
  | 93 => ⟨S_, .f32⟩
  | 94 => ⟨S1x16x32, .f32⟩
  | 95 => ⟨S_, .f32⟩
  | 96 => ⟨S1x16x32, .f32⟩
  | 97 => ⟨S1x16x32, .f32⟩
  | 98 => ⟨S1x16x32x1, .f32⟩
  | 99 => ⟨S1x16x32x32, .f32⟩
  | 100 => ⟨S1x16x32x32, .f32⟩
  | 101 => ⟨S1x16x32x32, .f32⟩
  | 102 => ⟨S_, .f32⟩
  | 103 => ⟨S1x16x32, .f32⟩
  | 104 => ⟨S1x16x32x1, .f32⟩
  | 105 => ⟨S1x16x32x32, .f32⟩
  | 106 => ⟨S1x16x32x32, .f32⟩
  | 107 => ⟨S_, .f32⟩
  | 108 => ⟨S1x16x32x32, .f32⟩
  | 109 => ⟨S1x16x32x32, .i1⟩
  | 110 => ⟨S32x32, .i32⟩
  | 111 => ⟨S32x32, .i32⟩
  | 112 => ⟨S_, .i32⟩
  | 113 => ⟨S32x32, .i32⟩
  | 114 => ⟨S32x32, .i32⟩
  | 115 => ⟨S32x32, .i1⟩
  | 116 => ⟨S1x1x32x32, .i1⟩
  | 117 => ⟨S1x16x32x32, .i1⟩
  | 118 => ⟨S1x16x32x32, .i1⟩
  | 119 => ⟨S1x1x32x32, .i1⟩
  | 120 => ⟨S1x16x32x32, .i1⟩
  | 121 => ⟨S1x16x32x32, .i1⟩
  | 122 => ⟨S1x16x32x64x32, .i1⟩
  | 123 => ⟨S1x16x2048x32, .i1⟩
  | 124 => ⟨S1x16x2048x32x64, .i1⟩
  | 125 => ⟨S1x16x2048x2048, .i1⟩
  | 126 => ⟨S_, .i1⟩
  | 127 => ⟨S2048x2048, .i1⟩
  | _ => ⟨S1x2048x2048, .f32⟩

abbrev hbmTy0_1 (i : Nat) : BufTy := match i % 128 with
  | 0 => ⟨S2048x2048, .i32⟩
  | 1 => ⟨S_, .i32⟩
  | 2 => ⟨S2048x2048, .i32⟩
  | 3 => ⟨S2048x2048, .i32⟩
  | 4 => ⟨S2048x2048, .i32⟩
  | 5 => ⟨S2048x2048, .i1⟩
  | 6 => ⟨S_, .i1⟩
  | 7 => ⟨S2048x2048, .i1⟩
  | 8 => ⟨S2048x2048, .i1⟩
  | 9 => ⟨S1x1x2048x2048, .i1⟩
  | 10 => ⟨S1x16x2048x2048, .i1⟩
  | 11 => ⟨S1x16x2048x2048, .i1⟩
  | 12 => ⟨S1x2048x1x128, .f32⟩
  | 13 => ⟨S1x2048x1x128, .f32⟩
  | 14 => ⟨S1x2048x16x128, .f32⟩
  | 15 => ⟨S1x2048x16x128, .f32⟩
  | 16 => ⟨S1x2048x16x64, .f32⟩
  | 17 => ⟨S1x2048x16x64, .f32⟩
  | 18 => ⟨S1x2048x16x64, .f32⟩
  | 19 => ⟨S1x2048x16x128, .f32⟩
  | 20 => ⟨S1x2048x16x128, .f32⟩
  | 21 => ⟨S1x2048x16x128, .f32⟩
  | 22 => ⟨S1x2048x16x128, .f32⟩
  | 23 => ⟨S1x2048x4x128, .f32⟩
  | 24 => ⟨S1x2048x4x128, .f32⟩
  | 25 => ⟨S1x2048x4x64, .f32⟩
  | 26 => ⟨S1x2048x4x64, .f32⟩
  | 27 => ⟨S1x2048x4x64, .f32⟩
  | 28 => ⟨S1x2048x4x128, .f32⟩
  | 29 => ⟨S1x2048x4x128, .f32⟩
  | 30 => ⟨S1x2048x4x128, .f32⟩
  | 31 => ⟨S1x2048x4x128, .f32⟩
  | 32 => ⟨S1x2048x4x4x128, .f32⟩
  | 33 => ⟨S1x2048x16x128, .f32⟩
  | 34 => ⟨S1x2048x4x4x128, .f32⟩
  | 35 => ⟨S1x2048x16x128, .f32⟩
  | 36 => ⟨S1x16x2048x2048, .f32⟩
  | 37 => ⟨S_, .f32⟩
  | 38 => ⟨S_, .f32⟩
  | 39 => ⟨S1x16x2048x2048, .f32⟩
  | 40 => ⟨S1x16x2048x2048, .f32⟩
  | 41 => ⟨S_, .f32⟩
  | 42 => ⟨S_, .f32⟩
  | 43 => ⟨S1x16x2048x2048, .f32⟩
  | 44 => ⟨S1x16x2048x2048, .f32⟩
  | 45 => ⟨S_, .f32⟩
  | 46 => ⟨S1x16x2048, .f32⟩
  | 47 => ⟨S_, .f32⟩
  | 48 => ⟨S1x16x2048, .f32⟩
  | 49 => ⟨S1x16x2048, .f32⟩
  | 50 => ⟨S1x16x2048x1, .f32⟩
  | 51 => ⟨S1x16x2048x2048, .f32⟩
  | 52 => ⟨S1x16x2048x2048, .f32⟩
  | 53 => ⟨S1x16x2048x2048, .f32⟩
  | 54 => ⟨S_, .f32⟩
  | 55 => ⟨S1x16x2048, .f32⟩
  | 56 => ⟨S1x16x2048x1, .f32⟩
  | 57 => ⟨S1x16x2048x2048, .f32⟩
  | 58 => ⟨S1x16x2048x2048, .f32⟩
  | 59 => ⟨S1x16x128x2048, .f32⟩
  | 60 => ⟨S1x2048x16x128, .f32⟩
  | 61 => ⟨S1x2048x2048, .f32⟩
  | 62 => ⟨S1x2048x2048, .f32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c : Ref sig .tc := ⟨.hbm, 76, rfl⟩
abbrev main_v55 : Ref sig .tc := ⟨.hbm, 77, rfl⟩
abbrev main_call0_v0 : Ref sig .tc := ⟨.hbm, 78, rfl⟩
abbrev main_call0_c : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_c_0 : Ref sig .tc := ⟨.hbm, 84, rfl⟩
abbrev main_call0_v5 : Ref sig .tc := ⟨.hbm, 85, rfl⟩
abbrev main_v56 : Ref sig .tc := ⟨.hbm, 86, rfl⟩
abbrev main_v57 : Ref sig .tc := ⟨.hbm, 87, rfl⟩
abbrev main_cst_6 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v58 : Ref sig .tc := ⟨.hbm, 92, rfl⟩
abbrev main_cst_7 : Ref sig .tc := ⟨.hbm, 93, rfl⟩
abbrev main_v59 : Ref sig .tc := ⟨.hbm, 94, rfl⟩
abbrev main_cst_8 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_9 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_10 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_11 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_12 : Ref sig .tc := ⟨.hbm, 126, rfl⟩
abbrev main_v87 : Ref sig .tc := ⟨.hbm, 127, rfl⟩
abbrev main_call2_v0 : Ref sig .tc := ⟨.hbm, 128, rfl⟩
abbrev main_call2_c : Ref sig .tc := ⟨.hbm, 129, rfl⟩
abbrev main_call2_v1 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_call2_c_0 : Ref sig .tc := ⟨.hbm, 134, rfl⟩
abbrev main_call2_v5 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_13 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_14 : Ref sig .tc := ⟨.hbm, 169, rfl⟩
abbrev main_call3_v0 : Ref sig .tc := ⟨.hbm, 170, rfl⟩
abbrev main_call3_v1 : Ref sig .tc := ⟨.hbm, 171, rfl⟩
abbrev main_v120 : Ref sig .tc := ⟨.hbm, 172, rfl⟩
abbrev main_cst_15 : Ref sig .tc := ⟨.hbm, 173, rfl⟩
abbrev main_v121 : Ref sig .tc := ⟨.hbm, 174, rfl⟩
abbrev main_cst_16 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_17 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩

abbrev nD : Nat := 1
abbrev τ : Topo := Topo.v7x

variable {F : FTy → Type} [FloatOps F]
-- ==== Proof.Frames.lean ====
/- The claims that say nothing about values: each program, from any memory, ends with its arguments as they were and every
   semaphore at zero (the generated frames), and the three literals the idealized kernel names are the values the table gives
   them. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import Idealize.ShloMosaic.Lib.Quiescent

@[expose] public section

noncomputable section

namespace Cert.Frames

open Idealize.ShloMosaic Idealize.SL.Sem

attribute [local instance] Cert.Kernel.Gen.facts Cert.KernelIdeal.Gen.facts Cert.ReferenceIdeal.Gen.facts Cert.Pre_finite.Gen.facts

/-- The kernel at bit patterns keeps its arguments. -/
theorem frame_p : Cert.quiescent_Kernel := fun m ρ _ => Cert.Kernel.Gen.frame m ρ

/-- The idealized kernel keeps its arguments. -/
theorem frame_pi : Cert.quiescent_KernelIdeal := fun m ρ _ => Cert.KernelIdeal.Gen.frame m ρ

/-- The reference keeps its arguments. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same two under the precondition of the value claim. -/
theorem frame_pi_finite : Cert.quiescent_KernelIdeal_pre_finite := fun m ρ _ => frame_pi m ρ trivial
theorem frame_ri_finite : Cert.quiescent_ReferenceIdeal_pre_finite := fun m ρ _ => frame_ri m ρ trivial

/-- The three named literals have the values of the table: the score scale `1 / (√128 · ln 2)`, the mask `-∞` and the large
    literal `+∞`. -/
theorem preserves : Cert.preserves_Kernel_KernelIdeal :=
  ⟨IdealRules.named_const.statement Cert.KernelIdeal.κ "qscale" .f32 0x3E0293EE#32 (((Real.sqrt 128)⁻¹ * (Real.log 2)⁻¹ : ℝ) : EReal) rfl,
   IdealRules.named_const.statement Cert.KernelIdeal.κ "mask" .f32 0xF149F2CA#32 ⊥ rfl,
   IdealRules.named_const.statement Cert.KernelIdeal.κ "big" .f32 0x7149F2CA#32 ⊤ rfl⟩

end Cert.Frames

end
-- ==== Proof.Scalars.lean ====
/- Facts about single numbers and words that both programs' readings use: the constants' values, a maximum folded from `-∞`, the
   comparisons of small indices, a selection by the bit of a proposition. -/
module

public import Idealize.ShloMosaic.PureOps.Ideal
public import Idealize.ShloMosaic.Lib.Pointwise
public import Idealize.ShloMosaic.Lib.WordCmp

@[expose] public section

noncomputable section

namespace Cert.Scalars

open Idealize.ShloMosaic

theorem ofBits_ninf : Ideal.ofBits .f32 0xFF800000#32 = ⊥ := by simp [Ideal.ofBits, Ideal.ieee]
theorem ofBits_zero : Ideal.ofBits .f32 0x00000000#32 = 0 := by simp [Ideal.ofBits, Ideal.ieee]
theorem ofBits_one : Ideal.ofBits .f32 0x3F800000#32 = 1 := by
  rw [show (1 : EReal) = ((1 : ℝ) : EReal) from rfl]; simp [Ideal.ofBits, Ideal.ieee, -EReal.coe_mul, -EReal.coe_one]; norm_num
theorem ofBits_128 : Ideal.ofBits .f32 0x43000000#32 = ((128 : ℝ) : EReal) := by
  simp [Ideal.ofBits, Ideal.ieee, -EReal.coe_mul]; norm_num

/-- A maximum folded from `-∞` is the supremum. -/
theorem fold_max {ι : Type} (s : Finset ι) (f : ι → EReal) : s.fold max (Ideal.ofBits .f32 0xFF800000#32) f = s.sup f := by
  rw [ofBits_ninf]; rfl

/-- The bit of a proposition. -/
theorem select_bit {α : Type} (p : Prop) [Decidable p] (x y : α) :
    Scalar.select (BitVec.ofBool (decide p)) x y = if p then x else y := by
  by_cases h : p <;> simp [Scalar.select, h]

theorem select_bool {α : Type} (p : Bool) (x y : α) : Scalar.select (BitVec.ofBool p) x y = if p then x else y := by
  cases p <;> simp [Scalar.select]

theorem select_one_zero (p : Bool) : Scalar.select (BitVec.ofBool p) 1#1 0#1 = BitVec.ofBool p := by
  cases p <;> rfl

theorem andi_bool (p q : Bool) : IntOp.andi (BitVec.ofBool p) (BitVec.ofBool q) = BitVec.ofBool (p && q) := by
  cases p <;> cases q <;> rfl
theorem ori_bool (p q : Bool) : IntOp.ori (BitVec.ofBool p) (BitVec.ofBool q) = BitVec.ofBool (p || q) := by
  cases p <;> cases q <;> rfl

theorem addi_zero {w : ℕ} (x : BitVec w) : IntOp.addi x 0#w = x := by simp [IntOp.addi]

theorem sge_small (a b : ℕ) (ha : a < 2 ^ 31) (hb : b < 2 ^ 31) :
    IntOp.cmpi .sge (BitVec.ofNat 32 a) (BitVec.ofNat 32 b) = BitVec.ofBool (decide (b ≤ a)) := WordCmp.cmpi_sge_ofNat ha hb
theorem sle_small (a b : ℕ) (ha : a < 2 ^ 31) (hb : b < 2 ^ 31) :
    IntOp.cmpi .sle (BitVec.ofNat 32 a) (BitVec.ofNat 32 b) = BitVec.ofBool (decide (a ≤ b)) := WordCmp.cmpi_sle_ofNat ha hb
theorem eq_small (a b : ℕ) (ha : a < 2 ^ 32) (hb : b < 2 ^ 32) :
    IntOp.cmpi .eq (BitVec.ofNat 32 a) (BitVec.ofNat 32 b) = BitVec.ofBool (decide (a = b)) := WordCmp.cmpi_eq_ofNat ha hb

/-- A sum over 128 lanes is the sum over the first 64 and the sum over the last 64. -/
theorem sum128 (f : ℕ → EReal) : ∑ x : Fin 128, f x = ∑ x : Fin 64, f x + ∑ x : Fin 64, f (64 + x) :=
  Fin.sum_univ_add (a := 64) (b := 64) fun i : Fin 128 => f i

/-- A sum over 256 lanes is the sum over the first 128 and the sum over the last 128. -/
theorem sum256 (f : ℕ → EReal) : ∑ x : Fin 256, f x = ∑ x : Fin 128, f x + ∑ x : Fin 128, f (128 + x) :=
  Fin.sum_univ_add (a := 128) (b := 128) fun i : Fin 256 => f i

end Cert.Scalars

end
-- ==== Proof.Spec.lean ====
/- The problem's mathematics over plain functions of natural numbers, on the extended reals: what both programs are read into.
   Token `s`, head `h`, lane `d`, block `b` are natural numbers; an array read outside its bounds is 0. -/
module

public import Idealize.ShloMosaic.PureOps.Ideal
public import Idealize.ShloMosaic.Lib.Pointwise
public import proofs.«01_k».proof.Proof.Scalars

@[expose] public section

noncomputable section

namespace Cert.Spec

open Idealize.ShloMosaic

/-- A vector as a function of a natural number. -/
def N1 {n : ℕ} (A : (⟨1, ![n]⟩ : Shape).Idx → EReal) (i : ℕ) : EReal := if h : i < n then A (ix1 ⟨i, h⟩) else 0
/-- A matrix as a function of two natural numbers. -/
def N2 {n k : ℕ} (A : (⟨2, ![n, k]⟩ : Shape).Idx → EReal) (i j : ℕ) : EReal :=
  if h : i < n ∧ j < k then A (ix2 ⟨i, h.1⟩ ⟨j, h.2⟩) else 0

theorem N1_at {n : ℕ} (A : (⟨1, ![n]⟩ : Shape).Idx → EReal) (i : Fin n) : A (ix1 i) = N1 A i := by simp [N1]
theorem N2_at {n k : ℕ} (A : (⟨2, ![n, k]⟩ : Shape).Idx → EReal) (i : Fin n) (j : Fin k) : A (ix2 i j) = N2 A i j := by
  simp [N2]
theorem N3_at {n k : ℕ} (A : (⟨3, ![1, n, k]⟩ : Shape).Idx → EReal) (i : Fin n) (j : Fin k) :
    A (ix3 0 i j) = N2 (fun y : (⟨2, ![n, k]⟩ : Shape).Idx => A (ix3 0 (y 0) (y 1))) i j := by
  rw [← N2_at]; rfl

/-- The arrays the programs are given. -/
structure Inp where
  x : ℕ → ℕ → EReal
  cos : ℕ → ℕ → EReal
  sin : ℕ → ℕ → EReal
  bcos : ℕ → ℕ → EReal
  bsin : ℕ → ℕ → EReal
  wq : ℕ → ℕ → EReal
  bq : ℕ → EReal
  wk : ℕ → ℕ → EReal
  bk : ℕ → EReal
  wv : ℕ → ℕ → EReal
  bv : ℕ → EReal
  wo : ℕ → ℕ → EReal
  wqg : ℕ → ℕ → EReal
  wkg : ℕ → ℕ → EReal

/-- The programs' 14 arguments, in their order, as those functions. -/
def Inp.of (a0 : (⟨3, ![1, 2048, 2048]⟩ : Shape).Idx → EReal) (a1 a2 : (⟨2, ![2048, 128]⟩ : Shape).Idx → EReal)
    (a3 a4 : (⟨2, ![32, 128]⟩ : Shape).Idx → EReal) (a5 : (⟨2, ![2048, 2048]⟩ : Shape).Idx → EReal)
    (a6 : (⟨1, ![2048]⟩ : Shape).Idx → EReal) (a7 : (⟨2, ![2048, 512]⟩ : Shape).Idx → EReal)
    (a8 : (⟨1, ![512]⟩ : Shape).Idx → EReal) (a9 : (⟨2, ![2048, 512]⟩ : Shape).Idx → EReal)
    (a10 : (⟨1, ![512]⟩ : Shape).Idx → EReal) (a11 : (⟨2, ![2048, 2048]⟩ : Shape).Idx → EReal)
    (a12 a13 : (⟨2, ![256, 128]⟩ : Shape).Idx → EReal) : Inp where
  x := N2 fun j : (⟨2, ![2048, 2048]⟩ : Shape).Idx => a0 (ix3 0 (j 0) (j 1))
  cos := N2 a1
  sin := N2 a2
  bcos := N2 a3
  bsin := N2 a4
  wq := N2 a5
  bq := N1 a6
  wk := N2 a7
  bk := N1 a8
  wv := N2 a9
  bv := N1 a10
  wo := N2 a11
  wqg := N2 a12
  wkg := N2 a13

/-- A row of `x` times a column of `w`, plus the bias. -/
def lin (x w : ℕ → ℕ → EReal) (b : ℕ → EReal) (s n : ℕ) : EReal := (∑ k : Fin 2048, x s k * w k n) + b n

/-- The rotated half of a vector of 128 lanes. -/
def rot (u : ℕ → EReal) (d : ℕ) : EReal := if d < 64 then -u (64 + d) else u (d - 64)

/-- The rotary embedding of a vector of 128 lanes by given cosines and sines. -/
def rope (u c s : ℕ → EReal) (d : ℕ) : EReal := u d * c d + rot u d * s d

/-- The number the pooled means are divided by (64) and the root of the head width (√128), as the programs write them. -/
def c64 : EReal := Ideal.ofBits .f32 0x42800000#32
def r128 : EReal := Ideal.sqrt (Ideal.ofBits .f32 0x43000000#32)

/-- The pooled vector of block `b`: means of its 64 tokens in lanes 0..127, maxima in lanes 128..255. -/
def pool (u : ℕ → ℕ → EReal) (b d : ℕ) : EReal :=
  if d < 128 then Ideal.div (∑ r : Fin 64, u (b * 64 + r) d) c64 else Finset.univ.sup fun r : Fin 64 => u (b * 64 + r) (d - 128)

/-- A pooled vector times a gate matrix. -/
def gproj (p : ℕ → EReal) (w : ℕ → ℕ → EReal) (g : ℕ) : EReal := ∑ k : Fin 256, p k * w k g

/-- The gate projection, its mean lanes and its maximum lanes apart. -/
theorem gproj_split (u w : ℕ → ℕ → EReal) (b g : ℕ) :
    gproj (pool u b) w g = ∑ x : Fin 128, Ideal.div (∑ r : Fin 64, u (b * 64 + r) x) c64 * w x g
      + ∑ x : Fin 128, (Finset.univ.sup fun r : Fin 64 => u (b * 64 + r) x) * w (128 + x) g := by
  rw [gproj, Scalars.sum256 fun k => pool u b k * w k g]
  refine congrArg₂ (· + ·) ?_ ?_
  · refine Finset.sum_congr rfl fun x _ => ?_
    rw [pool, if_pos x.isLt]
  · refine Finset.sum_congr rfl fun x _ => ?_
    rw [pool, if_neg (by omega), Nat.add_sub_cancel_left]

/-- The inner product of two rotated vectors, the first 64 lanes and the last 64 apart. -/
theorem rope_split (u c s u' c' s' : ℕ → EReal) :
    ∑ d : Fin 128, rope u c s d * rope u' c' s' d
      = ∑ x : Fin 64, (u x * c x + -u (64 + x) * s x) * (u' x * c' x + -u' (64 + x) * s' x)
        + ∑ x : Fin 64, (u (64 + x) * c (64 + x) + u x * s (64 + x)) * (u' (64 + x) * c' (64 + x) + u' x * s' (64 + x)) := by
  rw [Scalars.sum128 fun d => rope u c s d * rope u' c' s' d]
  refine congrArg₂ (· + ·) ?_ ?_
  · refine Finset.sum_congr rfl fun x _ => ?_
    simp only [rope, rot, if_pos x.isLt]
  · refine Finset.sum_congr rfl fun x _ => ?_
    simp only [rope, rot, if_neg (show ¬ 64 + (x : ℕ) < 64 by omega), Nat.add_sub_cancel_left]

variable (I : Inp)

def q (h s d : ℕ) : EReal := lin I.x I.wq I.bq s (h * 128 + d)
def k (g s d : ℕ) : EReal := lin I.x I.wk I.bk s (g * 128 + d)
def v (g s d : ℕ) : EReal := lin I.x I.wv I.bv s (g * 128 + d)
def qr (h s d : ℕ) : EReal := rope (q I h s) (I.cos s) (I.sin s) d
def kr (g s d : ℕ) : EReal := rope (k I g s) (I.cos s) (I.sin s) d
def qg (h b g : ℕ) : EReal := gproj (pool (q I h) b) I.wqg g
def kg (h b g : ℕ) : EReal := gproj (pool (k I h) b) I.wkg g
def qgr (h b g : ℕ) : EReal := rope (qg I h b) (I.bcos b) (I.bsin b) g
def kgr (h b g : ℕ) : EReal := rope (kg I h b) (I.bcos b) (I.bsin b) g

/-- The gate's logit of query block `i` and key block `j`; `-∞` after the diagonal. -/
def glogit (h i j : ℕ) : EReal := if j ≤ i then Ideal.div (∑ g : Fin 128, qgr I h i g * kgr I (h / 4) j g) r128 else ⊥

/-- The unnormalized gate weight: the exponential of the logit less the row's largest. -/
def gexp (h i j : ℕ) : EReal := Ideal.exp (glogit I h i j - Finset.univ.sup fun t : Fin 32 => glogit I h i t)

/-- Key block `j` is attended from query block `i`: its gate weight reaches 1/32 or it is the diagonal, and it is not later. -/
def sel (h i j : ℕ) : Prop :=
  (Ideal.ofBits .f32 0x3D000000#32 ≤ Ideal.div (gexp I h i j) (∑ t : Fin 32, gexp I h i t) ∨ i = j) ∧ j ≤ i

/-- The inner product of the rotated query and key. -/
def dot (h s t : ℕ) : EReal := ∑ d : Fin 128, qr I h s d * kr I (h / 4) t d

open Classical in
/-- The masked attention score. -/
def score (h s t : ℕ) : EReal := if sel I h (s / 64) (t / 64) ∧ t ≤ s then Ideal.div (dot I h s t) r128 else ⊥

/-- The unnormalized attention weight. -/
def aexp (h s t : ℕ) : EReal := Ideal.exp (score I h s t - Finset.univ.sup fun t' : Fin 2048 => score I h s t')

/-- The attention output. -/
def ctx (h s d : ℕ) : EReal :=
  ∑ t : Fin 2048, v I (h / 4) t d * Ideal.div (aexp I h s t) (∑ t' : Fin 2048, aexp I h s t')

/-- The result. -/
def out (s n : ℕ) : EReal := ∑ c : Fin 2048, ctx I (c / 128) s (c % 128) * I.wo c n

end Cert.Spec

end
-- ==== Proof.Host.lean ====
/- The operations between the kernels: the arguments laid out for the projection, the table of the key blocks for the gate, the output
   matrix and the result, each read at an index. -/
module

public import proofs.«01_k».proof.Proof.Gen.KernelIdeal.Frame
public import proofs.«01_k».proof.Proof.Spec
public import proofs.«01_k».proof.Proof.Scalars
public import Idealize.ShloMosaic.Lib.StableHlo.ReadAt
public import Idealize.ShloMosaic.Lib.Pipeline.ValueKit

@[expose] public section

set_option maxRecDepth 16384

noncomputable section

namespace Cert.Host

open Idealize.ShloMosaic Idealize.ShloMosaic.TcCoe Idealize.ShloMosaic.Tactic Cert.KernelIdeal Cert.KernelIdeal.Gen
open Cert.Spec (N1 N2 N1_at N2_at N3_at Inp)

variable (m : (ℓ : Loc nD τ sig) → Buf (Elt Ideal) ℓ) (ρ : Dev nD → PrngReg) (c : Dev nD)

/-- The kernel's arguments as functions. -/
def inp : Inp := Inp.of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))
  (m ((c : Thread nD τ).loc main_arg12)) (m ((c : Thread nD τ).loc main_arg13))

/-- The projected rows: queries, keys and values side by side. -/
def L (I : Inp) (s n : ℕ) : EReal :=
  if n < 2048 then Spec.lin I.x I.wq I.bq s n
  else if n - 2048 < 512 then Spec.lin I.x I.wk I.bk s (n - 2048) else Spec.lin I.x I.wv I.bv s (n - 2048 - 512)

theorem L_q (I : Inp) (h s d : ℕ) (hd : h * 128 + d < 2048) : L I s (h * 128 + d) = Spec.q I h s d := if_pos hd
theorem L_k (I : Inp) (g s d : ℕ) (hd : g * 128 + d < 512) : L I s (2048 + g * 128 + d) = Spec.k I g s d := by
  unfold L
  rw [if_neg (by omega), if_pos (by omega), show 2048 + g * 128 + d - 2048 = g * 128 + d by omega]
  rfl
theorem L_v (I : Inp) (g s d : ℕ) : L I s (2560 + g * 128 + d) = Spec.v I g s d := by
  unfold L
  rw [if_neg (by omega), if_neg (by omega), show 2560 + g * 128 + d - 2048 - 512 = g * 128 + d by omega]
  rfl

theorem x_at (s k : Fin 2048) : W1 m ρ c (Proc.devRef .tc main_v0) (ix2 s k) = (inp m c).x s k := by
  refine Eq.trans ?_ (N3_at (m ((c : Thread nD τ).loc main_arg0)) s k)
  after_reads_at

theorem w_at (k : Fin 2048) (n : Fin 3072) : W1 m ρ c (Proc.devRef .tc main_v1) (ix2 k n)
    = (if n.val < 2048 then (inp m c).wq k n else if n.val - 2048 < 512 then (inp m c).wk k (n - 2048) else (inp m c).wv k (n - 2048 - 512) : EReal) := by
  after_reads_at
  split
  · exact N2_at (m ((c : Thread nD τ).loc main_arg5)) k _
  · split
    · exact N2_at (m ((c : Thread nD τ).loc main_arg7)) k _
    · exact N2_at (m ((c : Thread nD τ).loc main_arg9)) k _

theorem b_at (n : Fin 3072) : W1 m ρ c (Proc.devRef .tc main_v3) (ix2 0 n)
    = (if n.val < 2048 then (inp m c).bq n else if n.val - 2048 < 512 then (inp m c).bk (n - 2048) else (inp m c).bv (n - 2048 - 512) : EReal) := by
  after_reads_at
  split
  · exact N1_at (m ((c : Thread nD τ).loc main_arg6)) _
  · split
    · exact N1_at (m ((c : Thread nD τ).loc main_arg8)) _
    · exact N1_at (m ((c : Thread nD τ).loc main_arg10)) _

/-- The floor quotient by 64 of a key's number. -/
theorem div64 : ∀ k : Fin 2048, Scalar.select
      (IntOp.andi
        (IntOp.cmpi .ne (if BitVec.ofNat 32 k = 0 then 0 else if (BitVec.ofNat 32 k).msb = true then -1 else 1)
          (if (64#32 : BitVec 32) = 0 then (0 : BitVec 32) else if BitVec.msb 64#32 = true then -1 else 1))
        (IntOp.cmpi .ne (IntOp.remsi ArithUnit.host (BitVec.ofNat 32 k) 64#32) 0#32))
      (IntOp.subi (IntOp.divsi ArithUnit.host (BitVec.ofNat 32 k) 64#32) 1#32)
      (IntOp.divsi ArithUnit.host (BitVec.ofNat 32 k) 64#32) = BitVec.ofNat 32 (k / 64) := by decide +kernel

/-- The number of a comparison's bit. -/
theorem bit_number (p : Bool) : (FloatOps.uitofp (F := Ideal) .f32 (BitVec.ofBool p) : EReal) = if p then 1 else 0 := by
  cases p <;> simp [FloatOps.uitofp]

theorem tbl_at (n : Fin 32) (k : Fin 2048) : W5 m ρ c (Proc.devRef .tc main_v9) (ix2 n k) = (if (k : ℕ) / 64 = n then 1 else 0 : EReal) := by
  after_reads_at
  refine (congrArg (fun z => FloatOps.uitofp (F := Ideal) .f32 (IntOp.cmpi .eq z (BitVec.ofNat 32 n))) (div64 k)).trans ?_
  rw [Scalars.eq_small _ _ (by omega) (by omega), bit_number]
  simp

theorem wo_at (i j : Fin 2048) : W8 m ρ c (Proc.devRef .tc main_v12) (ix2 i j) = (inp m c).wo i j := by
  refine Eq.trans ?_ (N2_at (m ((c : Thread nD τ).loc main_arg11)) i j)
  rw [← W7_args m ρ c main_arg11 (by decide)]
  after_reads_at

theorem out_at (s n : Fin 2048) : W10 m ρ c (Proc.devRef .tc main_v14) (ix3 0 s n) = W9 m ρ c (Proc.devRef .tc main_v13) (ix2 s n) := by
  after_reads_at

end Cert.Host
end
-- ==== Proof.Finite.lean ====
/- Under the precondition the arrays the attention scores are computed from hold real numbers, and so every inner product of a rotated
   query and key is a real number. -/
module

public import proofs.«01_k».proof.Defs
public import proofs.«01_k».proof.Proof.Gen.Pre_finite
public import proofs.«01_k».proof.Proof.Host

@[expose] public section

set_option maxRecDepth 16384

noncomputable section

namespace Cert.Finite

open Idealize.ShloMosaic Idealize.ShloMosaic.TcCoe
open Cert.Spec (N1 N2 Inp)

attribute [local instance] Cert.Pre_finite.Gen.facts

/-- An extended real that is a real number. -/
def IsReal (x : EReal) : Prop := ∃ r : ℝ, x = r

theorem real_add {x y : EReal} (hx : IsReal x) (hy : IsReal y) : IsReal (x + y) := by
  obtain ⟨a, rfl⟩ := hx
  obtain ⟨b, rfl⟩ := hy
  exact ⟨a + b, (EReal.coe_add a b).symm⟩
theorem real_mul {x y : EReal} (hx : IsReal x) (hy : IsReal y) : IsReal (x * y) := by
  obtain ⟨a, rfl⟩ := hx
  obtain ⟨b, rfl⟩ := hy
  exact ⟨a * b, (EReal.coe_mul a b).symm⟩
theorem real_neg {x : EReal} (hx : IsReal x) : IsReal (-x) := by
  obtain ⟨a, rfl⟩ := hx
  exact ⟨-a, (EReal.coe_neg a).symm⟩
theorem real_sum {ι : Type} (s : Finset ι) {f : ι → EReal} (hf : ∀ i, IsReal (f i)) : IsReal (∑ i ∈ s, f i) := by
  classical
  induction s using Finset.induction_on with
  | empty => exact ⟨0, by simp⟩
  | insert i s hi ih => rw [Finset.sum_insert hi]; exact real_add (hf i) ih

/-- A number whose magnitude compares below `+∞` is real. -/
theorem real_of_lt {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- The precondition's comparison of an array says that each of its elements is real. -/
theorem real_of {S : Shape} (h : Pre_finite.S_.BroadcastsInDim S (![] : Fin 0 → Fin S.rank)) (A : FVec Ideal S .f32)
    (hA : cmpf .olt (Host.absf A) (broadcastInDim S ![] h (constant Pre_finite.S_ .f32 0x7F800000#32)) = fun _ => 1#1) (y : S.Idx) :
    IsReal (A y) :=
  real_of_lt (congrFun hA y)

/-- Real arrays are real functions. -/
theorem real_N1 {n : ℕ} {A : (⟨1, ![n]⟩ : Shape).Idx → EReal} (hA : ∀ y, IsReal (A y)) (i : ℕ) : IsReal (N1 A i) := by
  unfold N1
  split
  · exact hA _
  · exact ⟨0, rfl⟩
theorem real_N2 {n k : ℕ} {A : (⟨2, ![n, k]⟩ : Shape).Idx → EReal} (hA : ∀ y, IsReal (A y)) (i j : ℕ) : IsReal (N2 A i j) := by
  unfold N2
  split
  · exact hA _
  · exact ⟨0, rfl⟩

theorem real_lin {x w : ℕ → ℕ → EReal} {b : ℕ → EReal} (hx : ∀ i j, IsReal (x i j)) (hw : ∀ i j, IsReal (w i j)) (hb : ∀ i, IsReal (b i))
    (s n : ℕ) : IsReal (Spec.lin x w b s n) :=
  real_add (real_sum _ fun k => real_mul (hx s k) (hw k n)) (hb n)
theorem real_rot {u : ℕ → EReal} (hu : ∀ i, IsReal (u i)) (d : ℕ) : IsReal (Spec.rot u d) := by
  unfold Spec.rot
  split
  · exact real_neg (hu _)
  · exact hu _
theorem real_rope {u c s : ℕ → EReal} (hu : ∀ i, IsReal (u i)) (hc : ∀ i, IsReal (c i)) (hs : ∀ i, IsReal (s i)) (d : ℕ) :
    IsReal (Spec.rope u c s d) :=
  real_add (real_mul (hu d) (hc d)) (real_mul (real_rot hu d) (hs d))

/-- The inner products are real where the arrays they are computed from are. -/
theorem real_dot (I : Inp) (hx : ∀ i j, IsReal (I.x i j)) (hc : ∀ i j, IsReal (I.cos i j)) (hs : ∀ i j, IsReal (I.sin i j))
    (hwq : ∀ i j, IsReal (I.wq i j)) (hbq : ∀ i, IsReal (I.bq i)) (hwk : ∀ i j, IsReal (I.wk i j)) (hbk : ∀ i, IsReal (I.bk i))
    (h s t : ℕ) : IsReal (Spec.dot I h s t) :=
  real_sum _ fun _ => real_mul (real_rope (fun _ => real_lin hx hwq hbq _ _) (hc s) (hs s) _)
    (real_rope (fun _ => real_lin hx hwk hbk _ _) (hc t) (hs t) _)

/-- Under the precondition the kernel's inner products are real. -/
theorem dot_real (m : (ℓ : Loc KernelIdeal.nD KernelIdeal.τ KernelIdeal.sig) → Buf (Elt Ideal) ℓ) (hm : Cert.Pre_KernelIdeal_finite m)
    (c : Dev KernelIdeal.nD) (h s t : ℕ) : ∃ r : ℝ, Spec.dot (Host.inp m c) h s t = r := by
  obtain ⟨h0, h1, h2, h5, h6, h7, h8⟩ := hm c
  exact real_dot (Host.inp m c)
    (real_N2 fun y : (⟨2, ![2048, 2048]⟩ : Shape).Idx => real_of _ _ h0 (ix3 0 (y 0) (y 1))) (real_N2 (real_of _ _ h1)) (real_N2 (real_of _ _ h2)) (real_N2 (real_of _ _ h5))
    (real_N1 (real_of _ _ h6)) (real_N2 (real_of _ _ h7)) (real_N1 (real_of _ _ h8)) h s t

end Cert.Finite
end
-- ==== Proof.KernelRun.lean ====
/- The idealized kernel's run with its result: it ends with the result array at the contents the last boundary of the run holds,
   the arguments unchanged. -/
module

public import proofs.«01_k».proof.Proof.Gen.KernelIdeal.Frame

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result array at the last boundary's contents and the arguments as launched. -/
theorem run : θ_run defs (onTc (τ := τ) (main (F := F))) ⟨m, fun _ => 0, ρ⟩ (fun r => ∀ c : Dev nD,
      r.2.mem ((c : Thread nD τ).loc main_v14) = W10 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨h c _ (mem_uc main_v14 (by decide)), (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelRun

end
-- ==== Proof.ProjBlock.lean ====
/- What one row block of the projection kernel computes, stated once for every head: the projected rows, a head's rotated rows with and
   without the scale, a head's value rows, a head's pooled rows. -/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.ProjBlock

open Idealize.ShloMosaic Idealize.ShloMosaic.TcCoe Idealize.ShloMosaic.Tactic Cert.KernelIdeal Cert.KernelIdeal.Gen
open Cert.Spec (N2 N2_at)

/-- The scale folded into the queries: `1/√128` times `1/log 2`. -/
def qscale : EReal := (((Real.sqrt 128)⁻¹ * (Real.log 2)⁻¹ : ℝ) : EReal)

/-- The projected rows: each a row of `x` times the joined weights, plus the joined bias. -/
theorem lin_at (x : Vec Ideal S256x2048 .f32) (w : Vec Ideal S2048x3072 .f32) (b : Vec Ideal S1x3072 .f32) (a : Fin 256) (n : Fin 3072) :
    k0_pay2 x w b (ix2 a n) = (∑ k : Fin 2048, x (ix2 a k) * w (ix2 k n)) + b (ix2 0 n) := by
  pointwise [k0_pay2]

/-- The 128 lanes from lane `o` on, of every row. -/
abbrev head (o : ℕ) (ho : S256x3072.Slices ![0, o] S256x128) (A : FVec Ideal S256x3072 .f32) : FVec Ideal S256x128 .f32 :=
  extractStridedSlice S256x128 ![0, o] A ho

theorem head_at (o : ℕ) (ho : S256x3072.Slices ![0, o] S256x128) (A : FVec Ideal S256x3072 .f32) (a : Fin 256) (d : Fin 128) :
    head o ho A (ix2 a d) = N2 A a (o + d) := by
  have h := ho.2 1
  simp at h
  rw [show N2 A a (o + d) = A (ix2 a ⟨o + d, by omega⟩) from (N2_at A a ⟨o + d, by omega⟩).symm]
  pointwise [head]

/-- A head's rows under the rotary embedding. -/
def ropeRows (u c s : FVec Ideal S256x128 .f32) : FVec Ideal S256x128 .f32 :=
  addf (mulf u c) (mulf (concatenate S256x128 1
    [⟨S256x64, subf (broadcast S256x64 (Scalar.ofBits (F := Ideal) .f32 0x00000000#32)) (extractStridedSlice S256x64 ![0, 64] u slices_S256x128_o0_64_S256x64)⟩,
     ⟨S256x64, extractStridedSlice S256x64 ![0, 0] u slices_S256x128_o0_0_S256x64⟩] concatenates_S256x64_S256x64_S256x128_d1) s)

/-- The rotary embedding of a vector reads its 128 lanes only. -/
theorem rope_congr (u v c s : ℕ → EReal) (h : ∀ d : Fin 128, u d = v d) (d : Fin 128) : Spec.rope u c s d = Spec.rope v c s d := by
  unfold Spec.rope Spec.rot
  rw [h d]
  split <;> rename_i hd
  · rw [h ⟨64 + d, by omega⟩]
  · rw [h ⟨d - 64, by omega⟩]

theorem ropeRows_at (u c s : FVec Ideal S256x128 .f32) (a : Fin 256) (d : Fin 128) :
    ropeRows u c s (ix2 a d) = Spec.rope (N2 u a) (N2 c a) (N2 s a) d := by
  have h0 : ropeRows u c s (ix2 a d) = u (ix2 a d) * c (ix2 a d)
      + (if h : d.val < 64 then 0 - u (ix2 a ⟨64 + d, by omega⟩) else u (ix2 a ⟨d - 64, by omega⟩)) * s (ix2 a d) := by
    pointwise [ropeRows]
  rw [h0, N2_at u, N2_at c, N2_at s]
  simp only [Spec.rope, Spec.rot, zero_sub]
  split <;> rename_i h
  · rw [N2_at u]
  · rw [N2_at u]

/-- A head's rotated rows. -/
theorem ropeHead_at (o : ℕ) (ho : S256x3072.Slices ![0, o] S256x128) (A : FVec Ideal S256x3072 .f32) (c s : FVec Ideal S256x128 .f32)
    (a : Fin 256) (d : Fin 128) :
    ropeRows (head o ho A) c s (ix2 a d) = Spec.rope (fun d => N2 A a (o + d)) (N2 c a) (N2 s a) d := by
  rw [ropeRows_at]
  refine rope_congr _ _ _ _ (fun d => ?_) d
  rw [← head_at o ho A a d, ← N2_at]

theorem q_piece (o : ℕ) (ho : S256x3072.Slices ![0, o] S256x128) (A : FVec Ideal S256x3072 .f32) (c s : FVec Ideal S256x128 .f32) (x : S1x256x128.Idx) :
    shapeCast S1x256x128 (truncf .bf16 (mulf (ropeRows (head o ho A) c s)
      (broadcast S256x128 (Named.named (F := Ideal) κ "qscale" 0x3E0293EE#32 : Ideal .f32))) bitsLt_bf16_f32) shapeCasts_S256x128_S1x256x128 x
      = Spec.rope (fun d => N2 A (x 1).val (o + d)) (N2 c (x 1).val) (N2 s (x 1).val) (x 2).val * qscale := by
  obtain ⟨z, a, d, rfl⟩ : ∃ (z : Fin 1) (a : Fin 256) (d : Fin 128), x = ix3 z a d := ⟨x 0, x 1, x 2, eq_ix3 x⟩
  pointwise
  rw [ropeHead_at, IdealRules.named_const.ideal_named_scalar _ _ _ _ rfl]
  rfl

theorem k_piece (o : ℕ) (ho : S256x3072.Slices ![0, o] S256x128) (A : FVec Ideal S256x3072 .f32) (c s : FVec Ideal S256x128 .f32) (x : S1x256x128.Idx) :
    shapeCast S1x256x128 (truncf .bf16 (ropeRows (head o ho A) c s) bitsLt_bf16_f32) shapeCasts_S256x128_S1x256x128 x
      = Spec.rope (fun d => N2 A (x 1).val (o + d)) (N2 c (x 1).val) (N2 s (x 1).val) (x 2).val := by
  obtain ⟨z, a, d, rfl⟩ : ∃ (z : Fin 1) (a : Fin 256) (d : Fin 128), x = ix3 z a d := ⟨x 0, x 1, x 2, eq_ix3 x⟩
  pointwise
  rw [ropeHead_at]

theorem v_piece (o : ℕ) (ho : S256x3072.Slices ![0, o] S256x128) (A : FVec Ideal S256x3072 .f32) (x : S1x256x128.Idx) :
    shapeCast S1x256x128 (truncf .bf16 (head o ho A) bitsLt_bf16_f32) shapeCasts_S256x128_S1x256x128 x
      = N2 A (x 1).val (o + (x 2).val) := by
  obtain ⟨z, a, d, rfl⟩ : ∃ (z : Fin 1) (a : Fin 256) (d : Fin 128), x = ix3 z a d := ⟨x 0, x 1, x 2, eq_ix3 x⟩
  pointwise
  exact N2_at A a ⟨o + d, _⟩

/-- A head's rows by blocks of 64. -/
theorem blocks_at (o : ℕ) (ho : S256x3072.Slices ![0, o] S256x128) (A : FVec Ideal S256x3072 .f32) (b : Fin 4) (r : Fin 64) (d : Fin 128) :
    shapeCast S4x64x128 (head o ho A) shapeCasts_S256x128_S4x64x128 (ix3 b r d) = N2 A (b * 64 + r) (o + d) := by
  refine Eq.trans ?_ (head_at o ho A ⟨b * 64 + r, by omega⟩ d)
  pointwise

theorem mean_piece (o : ℕ) (ho : S256x3072.Slices ![0, o] S256x128) (A : FVec Ideal S256x3072 .f32) (x : S4x1x128.Idx) :
    shapeCast S4x1x128 (divf (multiReduction .add [1] S4x128 (shapeCast S4x64x128 (head o ho A) shapeCasts_S256x128_S4x64x128) 0x00000000#32
        reduces_S4x64x128_S4x128 (.inl rfl) rfl) (broadcast S4x128 (Scalar.ofBits (F := Ideal) .f32 0x42800000#32))) shapeCasts_S4x128_S4x1x128 x
      = Ideal.div (∑ r : Fin 64, N2 A ((x 0).val * 64 + r) (o + (x 2).val)) Spec.c64 := by
  obtain ⟨b, z, d, rfl⟩ : ∃ (b : Fin 4) (z : Fin 1) (d : Fin 128), x = ix3 b z d := ⟨x 0, x 1, x 2, eq_ix3 x⟩
  have hb := blocks_at o ho A b
  generalize shapeCast S4x64x128 (head o ho A) shapeCasts_S256x128_S4x64x128 = B at *
  pointwise
  simp only [hb]
  rfl

theorem max_piece (o : ℕ) (ho : S256x3072.Slices ![0, o] S256x128) (A : FVec Ideal S256x3072 .f32) (x : S4x1x128.Idx) :
    shapeCast S4x1x128 (multiReduction .maximumf [1] S4x128 (shapeCast S4x64x128 (head o ho A) shapeCasts_S256x128_S4x64x128) 0xFF800000#32
        reduces_S4x64x128_S4x128 (.inl rfl) rfl) shapeCasts_S4x128_S4x1x128 x
      = Finset.univ.sup fun r : Fin 64 => N2 A ((x 0).val * 64 + r) (o + (x 2).val) := by
  obtain ⟨b, z, d, rfl⟩ : ∃ (b : Fin 4) (z : Fin 1) (d : Fin 128), x = ix3 b z d := ⟨x 0, x 1, x 2, eq_ix3 x⟩
  have hb := blocks_at o ho A b
  generalize shapeCast S4x64x128 (head o ho A) shapeCasts_S256x128_S4x64x128 = B at *
  pointwise
  rw [Scalars.fold_max]
  simp only [hb]

/-- What the kernel loads whole. -/
theorem loads (x : Vec Ideal S256x2048 .f32) (w : Vec Ideal S2048x3072 .f32) (b : Vec Ideal S1x3072 .f32) (c s : Vec Ideal S256x128 .f32) :
    k0_pay123 x w b c s = k0_pay2 x w b ∧ k0_pay2 (View.ld x r0_0) (View.ld w r0_1) (View.ld b r0_2) = k0_pay2 x w b
      ∧ View.ld c r0_3 = c ∧ View.ld s r0_3 = s := by
  have hA : k0_pay123 x w b c s = k0_pay2 x w b := by unfold k0_pay123; frame_out
  exact ⟨hA, hA, by frame_out, by frame_out⟩

theorem out5_at (x : Vec Ideal S256x2048 .f32) (w : Vec Ideal S2048x3072 .f32) (b : Vec Ideal S1x3072 .f32) (c s : Vec Ideal S256x128 .f32)
    (h : Fin 16) (a : Fin 256) (d : Fin 128) :
    out0_5 x w b c s (ix3 h a d) = Spec.rope (fun d => N2 (k0_pay2 x w b) a (h * 128 + d)) (N2 c a) (N2 s a) d * qscale := by
  obtain ⟨-, hA, hc, hs⟩ := loads x w b c s
  unfold_out out0_5
  unfold k0_pay7 k0_pay3
  rw [hA, hc, hs]
  generalize k0_pay2 x w b = A
  canon_tiles y h
  all_goals
    refine (q_piece _ (by decide) A c s y).trans ?_
    have e1 : (y 1).val = a := h1.symm
    have e2 : (y 2).val = d := h2.symm
    have e0 : (h : ℕ) = _ := h0
    simp only [e1, e2]
    rw [e0, Nat.lt_one_iff.mp y0_lt]

theorem out6_at (x : Vec Ideal S256x2048 .f32) (w : Vec Ideal S2048x3072 .f32) (b : Vec Ideal S1x3072 .f32) (c s : Vec Ideal S256x128 .f32)
    (h : Fin 4) (a : Fin 256) (d : Fin 128) :
    out0_6 x w b c s (ix3 h a d) = Spec.rope (fun d => N2 (k0_pay2 x w b) a (2048 + h * 128 + d)) (N2 c a) (N2 s a) d := by
  obtain ⟨hA, -, hc, hs⟩ := loads x w b c s
  unfold out0_6
  rw [hA, hc, hs]
  generalize k0_pay2 x w b = A
  canon_tiles y h
  all_goals
    refine (k_piece _ (by decide) A c s y).trans ?_
    have e1 : (y 1).val = a := h1.symm
    have e2 : (y 2).val = d := h2.symm
    have e0 : (h : ℕ) = _ := h0
    simp only [e1, e2]
    rw [e0, Nat.lt_one_iff.mp y0_lt]

theorem out7_at (x : Vec Ideal S256x2048 .f32) (w : Vec Ideal S2048x3072 .f32) (b : Vec Ideal S1x3072 .f32) (c s : Vec Ideal S256x128 .f32)
    (h : Fin 4) (a : Fin 256) (d : Fin 128) :
    out0_7 x w b c s (ix3 h a d) = N2 (k0_pay2 x w b) a (2560 + h * 128 + d) := by
  obtain ⟨hA, -, hc, hs⟩ := loads x w b c s
  unfold out0_7
  rw [hA]
  generalize k0_pay2 x w b = A
  canon_tiles y h
  all_goals
    refine (v_piece _ (by decide) A y).trans ?_
    have e1 : (y 1).val = a := h1.symm
    have e2 : (y 2).val = d := h2.symm
    have e0 : (h : ℕ) = _ := h0
    rw [e0, e1, e2, Nat.lt_one_iff.mp y0_lt]

theorem out8_at (x : Vec Ideal S256x2048 .f32) (w : Vec Ideal S2048x3072 .f32) (b : Vec Ideal S1x3072 .f32) (c s : Vec Ideal S256x128 .f32)
    (p : Fin 4) (h : Fin 16) (d : Fin 256) :
    out0_8 x w b c s (ix3 p h d) = Spec.pool (fun a d => N2 (k0_pay2 x w b) a (h * 128 + d)) p d := by
  obtain ⟨hA', hA, hc, hs⟩ := loads x w b c s
  unfold out0_8 k0_pay124 k0_pay125
  unfold k0_pay5 k0_pay6 k0_pay4 k0_pay3
  rw [hA', hA]
  generalize k0_pay2 x w b = A
  canon_tiles y h
  all_goals
    have e1 : (h : ℕ) = _ := h1
    have e0 : (p : ℕ) = (y 0).val := h0
    have e2 : (d : ℕ) = _ := h2
    unfold Spec.pool
    split <;> rename_i hd
    · first
      | omega
      | open_payloads
        refine (mean_piece _ (by decide) A y).trans ?_
        rw [e0, e1, e2, Nat.lt_one_iff.mp y1_lt]
    · first
      | omega
      | open_payloads
        refine (max_piece _ (by decide) A y).trans ?_
        rw [e0, e1, e2, Nat.add_sub_cancel_left, Nat.lt_one_iff.mp y1_lt]

theorem out9_at (x : Vec Ideal S256x2048 .f32) (w : Vec Ideal S2048x3072 .f32) (b : Vec Ideal S1x3072 .f32) (c s : Vec Ideal S256x128 .f32)
    (p : Fin 4) (h : Fin 4) (d : Fin 256) :
    out0_9 x w b c s (ix3 p h d) = Spec.pool (fun a d => N2 (k0_pay2 x w b) a (2048 + h * 128 + d)) p d := by
  obtain ⟨hA', hA, hc, hs⟩ := loads x w b c s
  unfold out0_9
  rw [hA']
  generalize k0_pay2 x w b = A
  canon_tiles y h
  all_goals
    have e1 : (h : ℕ) = _ := h1
    have e0 : (p : ℕ) = (y 0).val := h0
    have e2 : (d : ℕ) = _ := h2
    unfold Spec.pool
    split <;> rename_i hd
    · first
      | omega
      | open_payloads
        refine (mean_piece _ (by decide) A y).trans ?_
        rw [e0, e1, e2, Nat.lt_one_iff.mp y1_lt]
    · first
      | omega
      | open_payloads
        refine (max_piece _ (by decide) A y).trans ?_
        rw [e0, e1, e2, Nat.add_sub_cancel_left, Nat.lt_one_iff.mp y1_lt]

end Cert.ProjBlock
end
-- ==== Proof.ProjRegion.lean ====
/- The projection's five arrays after its eight row blocks: rotated and scaled queries, rotated keys, values, pooled queries and keys,
   over the projected rows `L`. -/
module

public import proofs.«01_k».proof.Proof.ProjBlock

@[expose] public section

set_option maxRecDepth 16384

noncomputable section

namespace Cert.ProjRegion

open Idealize.ShloMosaic Idealize.ShloMosaic.TcCoe Idealize.ShloMosaic.Tactic Cert.KernelIdeal Cert.KernelIdeal.Gen
open Idealize.ShloMosaic.Pipeline (Dat)
open Cert.Spec (N2 N2_at)
open Cert.ProjBlock (qscale)

variable (V : (c : Dev nD) → (b : Ref sig .tc) → Buf (Elt Ideal) ((c : Thread nD τ).loc b)) (c : Dev nD)

/-- What the region finds: rows that project to `L`, the cosines and the sines. -/
structure Entry (L cs sn : ℕ → ℕ → EReal) : Prop where
  lin : ∀ (X : (⟨2, ![2048, 2048]⟩ : Shape).Idx → EReal) (W : (⟨2, ![2048, 3072]⟩ : Shape).Idx → EReal) (B : (⟨2, ![1, 3072]⟩ : Shape).Idx → EReal),
    X = V c main_v0 → W = V c main_v1 → B = V c main_v3 →
    ∀ (s : Fin 2048) (n : Fin 3072), (∑ k : Fin 2048, X (ix2 s k) * W (ix2 k n)) + B (ix2 0 n) = L s n
  cos : ∀ (s : Fin 2048) (d : Fin 128), V c main_arg1 (ix2 s d) = cs s d
  sin : ∀ (s : Fin 2048) (d : Fin 128), V c main_arg2 (ix2 s d) = sn s d

variable {V c} {L cs sn : ℕ → ℕ → EReal} (E : Entry V c L cs sn)

theorem idx0 : ∀ t, win0_0.index t = ![(grid0.coords t 0).val, 0] := by decide +kernel
theorem idx1 : ∀ t, win0_1.index t = ![0, 0] := by decide +kernel
theorem idx2 : ∀ t, win0_2.index t = ![0, 0] := by decide +kernel
theorem idx3 : ∀ t, win0_3.index t = ![(grid0.coords t 0).val, 0] := by decide +kernel
theorem idx4 : ∀ t, win0_4.index t = ![(grid0.coords t 0).val, 0] := by decide +kernel
theorem idx5 : ∀ t, win0_5.index t = ![0, (grid0.coords t 0).val, 0] := by decide +kernel
theorem idx6 : ∀ t, win0_6.index t = ![0, (grid0.coords t 0).val, 0] := by decide +kernel
theorem idx7 : ∀ t, win0_7.index t = ![0, (grid0.coords t 0).val, 0] := by decide +kernel
theorem idx8 : ∀ t, win0_8.index t = ![(grid0.coords t 0).val, 0, 0] := by decide +kernel
theorem idx9 : ∀ t, win0_9.index t = ![(grid0.coords t 0).val, 0, 0] := by decide +kernel

include E in
/-- The rows block `t` projects. -/
theorem rows (t : Fin cfg0.N) (a : Fin 256) (n : Fin 3072) :
    N2 (k0_pay2 (iblk0 V c 0 t) (iblk0 V c 1 t) (iblk0 V c 2 t)) a n = L ((grid0.coords t 0).val * 256 + a) n := by
  have ht : (grid0.coords t 0).val < 8 := (grid0.coords t 0).isLt
  have e0 : ∀ k : Fin 2048, iblk0 V c 0 t (ix2 a k) = V c main_v0 (ix2 ⟨(grid0.coords t 0).val * 256 + a, by omega⟩ k) := by
    intro k; blk_ext [iblk0, idx0 t]
  have e1 : ∀ k : Fin 2048, iblk0 V c 1 t (ix2 k n) = V c main_v1 (ix2 k n) := by intro k; blk_ext [iblk0, idx1 t]
  have e2 : iblk0 V c 2 t (ix2 0 n) = V c main_v3 (ix2 0 n) := by blk_ext [iblk0, idx2 t]
  rw [← N2_at]
  refine (ProjBlock.lin_at (iblk0 V c 0 t) (iblk0 V c 1 t) (iblk0 V c 2 t) a n).trans ?_
  simp only [e0, e1, e2]
  exact E.lin _ _ _ rfl rfl rfl ⟨(grid0.coords t 0).val * 256 + a, by omega⟩ n

include E in
theorem cosRows (t : Fin cfg0.N) (a : Fin 256) (d : Fin 128) : N2 (iblk0 V c 3 t) a d = cs ((grid0.coords t 0).val * 256 + a) d := by
  have ht : (grid0.coords t 0).val < 8 := (grid0.coords t 0).isLt
  rw [← N2_at]
  refine Eq.trans ?_ (E.cos ⟨(grid0.coords t 0).val * 256 + a, by omega⟩ d)
  blk_ext [iblk0, idx3 t]

include E in
theorem sinRows (t : Fin cfg0.N) (a : Fin 256) (d : Fin 128) : N2 (iblk0 V c 4 t) a d = sn ((grid0.coords t 0).val * 256 + a) d := by
  have ht : (grid0.coords t 0).val < 8 := (grid0.coords t 0).isLt
  rw [← N2_at]
  refine Eq.trans ?_ (E.sin ⟨(grid0.coords t 0).val * 256 + a, by omega⟩ d)
  blk_ext [iblk0, idx4 t]

include E in
/-- A rotated row of block `t`, from lane `o` on. -/
theorem rope_rows (t : Fin cfg0.N) (o : ℕ) (ho : o + 128 ≤ 3072) (a : Fin 256) (d : Fin 128) :
    Spec.rope (fun d => N2 (k0_pay2 (iblk0 V c 0 t) (iblk0 V c 1 t) (iblk0 V c 2 t)) a (o + d)) (N2 (iblk0 V c 3 t) a) (N2 (iblk0 V c 4 t) a) d
      = Spec.rope (fun d => L ((grid0.coords t 0).val * 256 + a) (o + d)) (cs ((grid0.coords t 0).val * 256 + a))
          (sn ((grid0.coords t 0).val * 256 + a)) d := by
  refine (ProjBlock.rope_congr _ (fun d => L ((grid0.coords t 0).val * 256 + a) (o + d)) _ _ (fun d => ?_) d).trans ?_
  · exact rows E t a ⟨o + d, by omega⟩
  · unfold Spec.rope
    rw [cosRows E t a d, sinRows E t a d]

include E in
/-- A pooled row of block `t`, from lane `o` on. -/
theorem pool_rows (t : Fin cfg0.N) (o : ℕ) (ho : o + 128 ≤ 3072) (p : Fin 4) (d : Fin 256) :
    Spec.pool (fun a d => N2 (k0_pay2 (iblk0 V c 0 t) (iblk0 V c 1 t) (iblk0 V c 2 t)) a (o + d)) p d
      = Spec.pool (fun a d => L a (o + d)) ((grid0.coords t 0).val * 4 + p) d := by
  have e : ∀ (r : Fin 64) (l : ℕ), l < 128 → N2 (k0_pay2 (iblk0 V c 0 t) (iblk0 V c 1 t) (iblk0 V c 2 t)) (p * 64 + r) (o + l)
      = L (((grid0.coords t 0).val * 4 + p) * 64 + r) (o + l) := fun r l hl => by
    rw [show ((grid0.coords t 0).val * 4 + (p : ℕ)) * 64 + r = (grid0.coords t 0).val * 256 + (p * 64 + r) by omega]
    exact rows E t ⟨p * 64 + r, by omega⟩ ⟨o + l, by omega⟩
  unfold Spec.pool
  split <;> rename_i h
  · simp only [e _ _ h]
  · simp only [e _ _ (show d.val - 128 < 128 by omega)]

include E in
theorem q_arr : (dat0 V c).arrAt 5 cfg0.N = fun y => Spec.rope (fun d => L (y 1).val ((y 0).val * 128 + d)) (cs (y 1).val) (sn (y 1).val) (y 2).val * qscale := by
  refine (dat0 V c).arrAt_eq_of_covers 5 _ (by decide +kernel) fun t hf y => ?_
  blk_simp
  rw [after0_5]
  obtain ⟨h, a, d, rfl⟩ : ∃ (h : Fin 16) (a : Fin 256) (d : Fin 128), y = ix3 h a d := ⟨y 0, y 1, y 2, eq_ix3 y⟩
  refine (ProjBlock.out5_at _ _ _ _ _ h a d).trans ?_
  rw [rope_rows E t (h * 128) (by omega), idx5 t]
  simp

include E in
theorem k_arr : (dat0 V c).arrAt 6 cfg0.N = fun y => Spec.rope (fun d => L (y 1).val (2048 + (y 0).val * 128 + d)) (cs (y 1).val) (sn (y 1).val) (y 2).val := by
  refine (dat0 V c).arrAt_eq_of_covers 6 _ (by decide +kernel) fun t hf y => ?_
  blk_simp
  rw [after0_6]
  obtain ⟨h, a, d, rfl⟩ : ∃ (h : Fin 4) (a : Fin 256) (d : Fin 128), y = ix3 h a d := ⟨y 0, y 1, y 2, eq_ix3 y⟩
  refine (ProjBlock.out6_at _ _ _ _ _ h a d).trans ?_
  rw [rope_rows E t (2048 + h * 128) (by omega), idx6 t]
  simp

include E in
theorem v_arr : (dat0 V c).arrAt 7 cfg0.N = fun y => L (y 1).val (2560 + (y 0).val * 128 + (y 2).val) := by
  refine (dat0 V c).arrAt_eq_of_covers 7 _ (by decide +kernel) fun t hf y => ?_
  blk_simp
  rw [after0_7]
  obtain ⟨h, a, d, rfl⟩ : ∃ (h : Fin 4) (a : Fin 256) (d : Fin 128), y = ix3 h a d := ⟨y 0, y 1, y 2, eq_ix3 y⟩
  refine (ProjBlock.out7_at _ _ _ _ _ h a d).trans ?_
  rw [idx7 t]
  refine (rows E t a ⟨2560 + h * 128 + d, by omega⟩).trans ?_
  simp

include E in
theorem qp_arr : (dat0 V c).arrAt 8 cfg0.N = fun y => Spec.pool (fun a d => L a ((y 1).val * 128 + d)) (y 0).val (y 2).val := by
  refine (dat0 V c).arrAt_eq_of_covers 8 _ (by decide +kernel) fun t hf y => ?_
  blk_simp
  rw [after0_8]
  obtain ⟨p, h, d, rfl⟩ : ∃ (p : Fin 4) (h : Fin 16) (d : Fin 256), y = ix3 p h d := ⟨y 0, y 1, y 2, eq_ix3 y⟩
  refine (ProjBlock.out8_at _ _ _ _ _ p h d).trans ?_
  rw [pool_rows E t (h * 128) (by omega), idx8 t]
  simp

include E in
theorem kp_arr : (dat0 V c).arrAt 9 cfg0.N = fun y => Spec.pool (fun a d => L a (2048 + (y 1).val * 128 + d)) (y 0).val (y 2).val := by
  refine (dat0 V c).arrAt_eq_of_covers 9 _ (by decide +kernel) fun t hf y => ?_
  blk_simp
  rw [after0_9]
  obtain ⟨p, h, d, rfl⟩ : ∃ (p : Fin 4) (h : Fin 4) (d : Fin 256), y = ix3 p h d := ⟨y 0, y 1, y 2, eq_ix3 y⟩
  refine (ProjBlock.out9_at _ _ _ _ _ p h d).trans ?_
  rw [pool_rows E t (2048 + h * 128) (by omega), idx9 t]
  simp

end Cert.ProjRegion
end
-- ==== Proof.GateBlock.lean ====
/- What the gate kernel computes, stated once for every head: the rotated gate projections, a head's logits, its selected blocks, and the
   addend of its keys: 0 where the key's block is selected from the query's block, `-∞` where not. -/
module

public import proofs.«01_k».proof.Proof.ProjBlock

@[expose] public section

set_option maxRecDepth 16384

noncomputable section

namespace Cert.GateBlock

open Idealize.ShloMosaic Idealize.ShloMosaic.TcCoe Idealize.ShloMosaic.Tactic Cert.KernelIdeal Cert.KernelIdeal.Gen
open Cert.Spec (N2 N2_at)

/-- The gate projection of a pooled vector under the block rotary embedding: the queries'. -/
theorem qg_at (x : Vec Ideal S32x16x256 .f32) (w : Vec Ideal S256x128 .f32) (c s : Vec Ideal S32x128 .f32) (i : Fin 32) (h : Fin 16) (g : Fin 128)
    (p : ℕ → EReal) (hp : ∀ k : Fin 256, x (ix3 i h k) = p k) :
    k1_pay4 x w c s (ix3 i h g) = Spec.rope (Spec.gproj p (N2 w)) (N2 c i) (N2 s i) g := by
  have h0 : k1_pay4 x w c s (ix3 i h g) = (∑ k : Fin 256, x (ix3 i h k) * w (ix2 k g)) * c (ix2 i g)
      + (if h' : g.val < 64 then 0 - ∑ k : Fin 256, x (ix3 i h k) * w (ix2 k ⟨64 + g, by omega⟩)
          else ∑ k : Fin 256, x (ix3 i h k) * w (ix2 k ⟨g - 64, by omega⟩)) * s (ix2 i g) := by
    pointwise [k1_pay4, k1_pay2, k1_pay3]
  rw [h0]
  simp only [hp, N2_at w, N2_at c, N2_at s, Spec.rope, Spec.rot, zero_sub, Spec.gproj]
  split <;> rfl

/-- The same of the keys'. -/
theorem kg_at (x : Vec Ideal S32x4x256 .f32) (w : Vec Ideal S256x128 .f32) (c s : Vec Ideal S32x128 .f32) (i : Fin 32) (h : Fin 4) (g : Fin 128)
    (p : ℕ → EReal) (hp : ∀ k : Fin 256, x (ix3 i h k) = p k) :
    k1_pay5 x w c s (ix3 i h g) = Spec.rope (Spec.gproj p (N2 w)) (N2 c i) (N2 s i) g := by
  have h0 : k1_pay5 x w c s (ix3 i h g) = (∑ k : Fin 256, x (ix3 i h k) * w (ix2 k g)) * c (ix2 i g)
      + (if h' : g.val < 64 then 0 - ∑ k : Fin 256, x (ix3 i h k) * w (ix2 k ⟨64 + g, by omega⟩)
          else ∑ k : Fin 256, x (ix3 i h k) * w (ix2 k ⟨g - 64, by omega⟩)) * s (ix2 i g) := by
    pointwise [k1_pay5, k1_pay2, k1_pay3]
  rw [h0]
  simp only [hp, N2_at w, N2_at c, N2_at s, Spec.rope, Spec.rot, zero_sub, Spec.gproj]
  split <;> rfl

/-- The logits masked after the diagonal, of one head. -/
abbrev logits (o o' : ℕ) (ho : S32x16x128.Slices ![0, o, 0] S32x1x128) (ho' : S32x4x128.Slices ![0, o', 0] S32x1x128)
    (Q : FVec Ideal S32x16x128 .f32) (K : FVec Ideal S32x4x128 .f32) : FVec Ideal S32x32 .f32 :=
  select (cmpi .sge (iota .tc S32x32 32 [0] iota_S32x32_d0_w32) (iota .tc S32x32 32 [1] iota_S32x32_d1_w32))
    (divf (matmul dot_S32x128_S32x128_S32x32_1_1_0_0_n_n none (shapeCast S32x128 (extractStridedSlice S32x1x128 ![0, o, 0] Q ho) shapeCasts_S32x1x128_S32x128)
        (shapeCast S32x128 (extractStridedSlice S32x1x128 ![0, o', 0] K ho') shapeCasts_S32x1x128_S32x128) (constant S32x32 .f32 0x00000000#32))
      (broadcast S32x32 (Scalar.sqrt (Scalar.ofBits (F := Ideal) .f32 0x43000000#32))))
    (broadcast S32x32 (Named.named (F := Ideal) κ "mask" 0xF149F2CA#32 : Ideal .f32))

theorem logits_at (o o' : ℕ) (ho : S32x16x128.Slices ![0, o, 0] S32x1x128) (ho' : S32x4x128.Slices ![0, o', 0] S32x1x128)
    (Q : FVec Ideal S32x16x128 .f32) (K : FVec Ideal S32x4x128 .f32) (qf kf : ℕ → ℕ → ℕ → EReal)
    (hQ : ∀ (i : Fin 32) (h : Fin 16) (g : Fin 128), Q (ix3 i h g) = qf h i g) (hK : ∀ (i : Fin 32) (h : Fin 4) (g : Fin 128), K (ix3 i h g) = kf h i g)
    (i j : Fin 32) :
    logits o o' ho ho' Q K (ix2 i j) = if (j : ℕ) ≤ i then Ideal.div (∑ g : Fin 128, qf o i g * kf o' j g) Spec.r128 else ⊥ := by
  have h0 : logits o o' ho ho' Q K (ix2 i j) = Scalar.select (IntOp.cmpi .sge (BitVec.ofNat 32 i) (BitVec.ofNat 32 j))
      (Ideal.div (∑ g : Fin 128, Q (ix3 i ⟨o, by have := ho.2 1; simp at this; omega⟩ g) * K (ix3 j ⟨o', by have := ho'.2 1; simp at this; omega⟩ g)) Spec.r128)
      (Named.named (F := Ideal) κ "mask" 0xF149F2CA#32 : Ideal .f32) := by
    pointwise [logits]
    rfl
  rw [h0, IdealRules.named_const.ideal_named_scalar _ _ _ _ rfl, Scalars.sge_small _ _ (by omega) (by omega), Scalars.select_bit]
  simp only [hQ, hK]

/-- The weights of a head's logits. -/
abbrev weights (G : FVec Ideal S32x32 .f32) : FVec Ideal S32x32 .f32 :=
  exp (subf G (broadcastTo S32x32 (shapeCast S32x1 (multiReduction .maximumf [1] S32 G 0xFF800000#32 reduces_S32x32_S32 (.inl rfl) rfl) shapeCasts_S32_S32x1) broadcasts_S32x1_S32x32))

/-- Block `j` is selected from block `i` by the logits `G`. -/
def SelOf (G : ℕ → ℕ → EReal) (i j : ℕ) : Prop :=
  (Ideal.ofBits .f32 0x3D000000#32 ≤ Ideal.div (Ideal.exp (G i j - Finset.univ.sup fun t : Fin 32 => G i t))
      (∑ t' : Fin 32, Ideal.exp (G i t' - Finset.univ.sup fun t : Fin 32 => G i t)) ∨ i = j) ∧ j ≤ i

theorem weights_at (G : FVec Ideal S32x32 .f32) (f : ℕ → ℕ → EReal) (hG : ∀ i j : Fin 32, G (ix2 i j) = f i j) (i j : Fin 32) :
    weights G (ix2 i j) = Ideal.exp (f i j - Finset.univ.sup fun t : Fin 32 => f i t) := by
  pointwise [weights]
  rw [Scalars.fold_max]
  simp only [hG]

/-- The bits of the selected blocks. -/
abbrev selBits (W : FVec Ideal S32x32 .f32) : IVec S32x32 1 :=
  andi (ori (cmpf .oge (divf W (broadcastTo S32x32 (shapeCast S32x1 (multiReduction .add [1] S32 W 0x00000000#32 reduces_S32x32_S32 (.inl rfl) rfl) shapeCasts_S32_S32x1) broadcasts_S32x1_S32x32))
      (broadcast S32x32 (Scalar.ofBits (F := Ideal) .f32 0x3D000000#32)))
    (cmpi .eq (iota .tc S32x32 32 [0] iota_S32x32_d0_w32) (iota .tc S32x32 32 [1] iota_S32x32_d1_w32)))
    (cmpi .sge (iota .tc S32x32 32 [0] iota_S32x32_d0_w32) (iota .tc S32x32 32 [1] iota_S32x32_d1_w32))

open Classical in
theorem selBits_at (G : FVec Ideal S32x32 .f32) (f : ℕ → ℕ → EReal) (hG : ∀ i j : Fin 32, G (ix2 i j) = f i j) (i j : Fin 32) :
    selBits (weights G) (ix2 i j) = BitVec.ofBool (decide (SelOf f i j)) := by
  have hW := weights_at G f hG
  generalize weights G = W at *
  pointwise [selBits]
  simp only [hW]
  rw [Scalars.sge_small _ _ (by omega) (by omega), Scalars.eq_small _ _ (by omega) (by omega), Scalars.ori_bool, Scalars.andi_bool]
  refine congrArg _ ?_
  rw [Bool.eq_iff_iff, decide_eq_true_iff]
  simp only [SelOf, Bool.and_eq_true, Bool.or_eq_true, decide_eq_true_eq]

/-- The addends: the selected blocks' bits spread over the keys of each block. -/
abbrev addend (e : FVec Ideal S32x2048 .f32) (B : IVec S32x32 1) : FVec Ideal S1x2048x32 .bf16 :=
  shapeCast S1x2048x32 (truncf .bf16 (mulf (subf (matmul dot_S32x2048_S32x32_S2048x32_0_0_1_1_n_n none e
        (transpose S32x32 [1, 0] (sitofp .f32 (extui 32 B natLt_1_32)) transposes_S32x32_p1_0_S32x32) (constant S2048x32 .f32 0x00000000#32))
      (broadcast S2048x32 (Scalar.ofBits (F := Ideal) .f32 0x3F800000#32))) (broadcast S2048x32 (Named.named (F := Ideal) κ "big" 0x7149F2CA#32 : Ideal .f32)))
    bitsLt_bf16_f32) shapeCasts_S2048x32_S1x2048x32

open Classical in
theorem addend_at (e : FVec Ideal S32x2048 .f32) (B : IVec S32x32 1) (he : ∀ (n : Fin 32) (k : Fin 2048), e (ix2 n k) = if (k : ℕ) / 64 = n then 1 else 0)
    (P : ℕ → ℕ → Prop) (hB : ∀ i j : Fin 32, B (ix2 i j) = BitVec.ofBool (decide (P i j))) (y : S1x2048x32.Idx) :
    addend e B y = if P (y 2).val ((y 1).val / 64) then 0 else ⊥ := by
  obtain ⟨z, k, i, rfl⟩ : ∃ (z : Fin 1) (k : Fin 2048) (i : Fin 32), y = ix3 z k i := ⟨y 0, y 1, y 2, eq_ix3 y⟩
  have h0 : addend e B (ix3 z k i) = (∑ n : Fin 32, e (ix2 n k) * (FloatOps.sitofp (F := Ideal) .f32 (BitVec.setWidth 32 (B (ix2 i n))) : EReal) - 1)
      * (Named.named (F := Ideal) κ "big" 0x7149F2CA#32 : Ideal .f32) := by
    pointwise [addend]
  have h1 : ∀ n : Fin 32, (FloatOps.sitofp (F := Ideal) .f32 (BitVec.setWidth 32 (B (ix2 i n))) : EReal) = if P i n then 1 else 0 := by
    intro n
    rw [hB]
    by_cases h : P i n <;> simp [h, FloatOps.sitofp]
  have h2 : ∑ n : Fin 32, e (ix2 n k) * (FloatOps.sitofp (F := Ideal) .f32 (BitVec.setWidth 32 (B (ix2 i n))) : EReal)
      = if P i (k.val / 64) then 1 else 0 := by
    simp only [h1, he]
    rw [Finset.sum_eq_single (⟨k.val / 64, by omega⟩ : Fin 32)]
    · simp
    · intro b _ hb
      have : ¬ k.val / 64 = b.val := fun h => hb (Fin.ext h.symm)
      simp [this]
    · simp
  rw [h0, h2, IdealRules.named_const.ideal_named_scalar _ _ _ _ rfl]
  show _ = if P i.val (k.val / 64) then (0 : EReal) else ⊥
  split
  · rw [show (1 : EReal) - 1 = 0 from by simpa using (EReal.coe_sub 1 1).symm, zero_mul]
  · rw [zero_sub, neg_mul, one_mul]
    rfl

open Classical in
/-- One head's piece: the addends of head `o` (its key head `o'`). -/
theorem piece (o o' : ℕ) (ho : S32x16x128.Slices ![0, o, 0] S32x1x128) (ho' : S32x4x128.Slices ![0, o', 0] S32x1x128)
    (Q : FVec Ideal S32x16x128 .f32) (K : FVec Ideal S32x4x128 .f32) (e : FVec Ideal S32x2048 .f32) (qf kf : ℕ → ℕ → ℕ → EReal)
    (hQ : ∀ (i : Fin 32) (h : Fin 16) (g : Fin 128), Q (ix3 i h g) = qf h i g) (hK : ∀ (i : Fin 32) (h : Fin 4) (g : Fin 128), K (ix3 i h g) = kf h i g)
    (he : ∀ (n : Fin 32) (k : Fin 2048), e (ix2 n k) = if (k : ℕ) / 64 = n then 1 else 0) (y : S1x2048x32.Idx) :
    addend e (selBits (weights (logits o o' ho ho' Q K))) y
      = if SelOf (fun i j => if j ≤ i then Ideal.div (∑ g : Fin 128, qf o i g * kf o' j g) Spec.r128 else ⊥) (y 2).val ((y 1).val / 64) then 0 else ⊥ :=
  addend_at e _ he _ (selBits_at _ _ (logits_at o o' ho ho' Q K qf kf hQ hK)) y

/-- The loads of the whole windows are the windows. -/
theorem loads (x0 : Vec Ideal S32x16x256 .f32) (x1 : Vec Ideal S32x4x256 .f32) (x2 x3 : Vec Ideal S256x128 .f32) (x4 x5 : Vec Ideal S32x128 .f32)
    (x6 : Vec Ideal S32x2048 .f32) :
    k1_pay41 x0 x1 x2 x3 x4 x5 x6 = k1_pay4 x0 x2 x4 x5 ∧ k1_pay42 x0 x1 x2 x3 x4 x5 x6 = k1_pay5 x1 x3 x4 x5
      ∧ k1_pay44 x0 x1 x2 x3 x4 x5 x6 = x6 ∧ View.ld x6 r1_4 = x6 := by
  exact ⟨by unfold k1_pay41; frame_out, by unfold k1_pay42; frame_out, by unfold k1_pay44; frame_out; exact shapeCast_id x6 _, by frame_out⟩

set_option maxHeartbeats 200000 in
open Classical in
/-- The whole window: at head `h`, key `k` and query block `i`. -/
theorem out7_at (x0 : Vec Ideal S32x16x256 .f32) (x1 : Vec Ideal S32x4x256 .f32) (x2 x3 : Vec Ideal S256x128 .f32) (x4 x5 : Vec Ideal S32x128 .f32)
    (x6 : Vec Ideal S32x2048 .f32) (qf kf : ℕ → ℕ → ℕ → EReal)
    (hQ : ∀ (i : Fin 32) (h : Fin 16) (g : Fin 128), k1_pay4 x0 x2 x4 x5 (ix3 i h g) = qf h i g)
    (hK : ∀ (i : Fin 32) (h : Fin 4) (g : Fin 128), k1_pay5 x1 x3 x4 x5 (ix3 i h g) = kf h i g)
    (he : ∀ (n : Fin 32) (k : Fin 2048), x6 (ix2 n k) = if (k : ℕ) / 64 = n then 1 else 0) (h : Fin 16) (k : Fin 2048) (i : Fin 32) :
    out1_7 x0 x1 x2 x3 x4 x5 x6 (ix3 h k i)
      = if SelOf (fun i j => if j ≤ i then Ideal.div (∑ g : Fin 128, qf h i g * kf (h / 4) j g) Spec.r128 else ⊥) i (k / 64) then 0 else ⊥ := by
  obtain ⟨hQ', hK', hE, hE'⟩ := loads x0 x1 x2 x3 x4 x5 x6
  unfold out1_7
  rw [hQ', hK', hE, hE']
  unfold k1_pay39 k1_pay40 k1_pay43
  generalize k1_pay4 x0 x2 x4 x5 = Q at *
  generalize k1_pay5 x1 x3 x4 x5 = K at *
  canon_tiles y h
  all_goals
    open_payloads
    try rw [shapeCast_id]
    refine (piece _ _ (by decide) (by decide) Q K x6 qf kf hQ hK he y).trans ?_
    have e1 : (y 1).val = k := h1.symm
    have e2 : (y 2).val = i := h2.symm
    have e0 : (h : ℕ) = _ := h0
    rw [e1, e2, e0, Nat.lt_one_iff.mp y0_lt]

end Cert.GateBlock
end
-- ==== Proof.GateRegion.lean ====
/- The gate's array: at head `h`, key `k` and query block `i` it holds 0 where the key's block is selected from the query block and `-∞` where not. -/
module

public import proofs.«01_k».proof.Proof.GateBlock

@[expose] public section

set_option maxRecDepth 16384

noncomputable section

namespace Cert.GateRegion

open Idealize.ShloMosaic Idealize.ShloMosaic.TcCoe Idealize.ShloMosaic.Tactic Cert.KernelIdeal Cert.KernelIdeal.Gen
open Idealize.ShloMosaic.Pipeline (Dat)
open Cert.Spec (N2 N2_at)

variable (V : (c : Dev nD) → (b : Ref sig .tc) → Buf (Elt Ideal) ((c : Thread nD τ).loc b)) (c : Dev nD)

/-- The arrays the gate kernel is entered with, over the inputs `I`. -/
structure Entry (I : Spec.Inp) : Prop where
  qp : ∀ (i : Fin 32) (h : Fin 16) (k : Fin 256), V c main_v4_3 (ix3 i h k) = Spec.pool (Spec.q I h) i k
  kp : ∀ (i : Fin 32) (h : Fin 4) (k : Fin 256), V c main_v4_4 (ix3 i h k) = Spec.pool (Spec.k I h) i k
  wqg : ∀ (w : FVec Ideal S256x128 .f32), w = V c main_arg12 → N2 w = I.wqg
  wkg : ∀ (w : FVec Ideal S256x128 .f32), w = V c main_arg13 → N2 w = I.wkg
  bcos : ∀ (w : FVec Ideal S32x128 .f32), w = V c main_arg3 → N2 w = I.bcos
  bsin : ∀ (w : FVec Ideal S32x128 .f32), w = V c main_arg4 → N2 w = I.bsin
  tbl : ∀ (n : Fin 32) (k : Fin 2048), V c main_v9 (ix2 n k) = (if (k : ℕ) / 64 = n then 1 else 0 : EReal)

theorem idx0 : ∀ t, win1_0.index t = ![0, 0, 0] := by decide +kernel
theorem idx1 : ∀ t, win1_1.index t = ![0, 0, 0] := by decide +kernel
theorem idx2 : ∀ t, win1_2.index t = ![0, 0] := by decide +kernel
theorem idx3 : ∀ t, win1_3.index t = ![0, 0] := by decide +kernel
theorem idx4 : ∀ t, win1_4.index t = ![0, 0] := by decide +kernel
theorem idx5 : ∀ t, win1_5.index t = ![0, 0] := by decide +kernel
theorem idx6 : ∀ t, win1_6.index t = ![0, 0] := by decide +kernel
theorem idx7 : ∀ t, win1_7.index t = ![0, 0, 0] := by decide +kernel

theorem blk2 (t : Fin cfg1.N) : iblk1 V c 2 t = V c main_arg12 := by
  funext y
  obtain ⟨n, k, rfl⟩ : ∃ (n : Fin 256) (k : Fin 128), y = ix2 n k := ⟨y 0, y 1, eq_ix2 y⟩
  blk_ext [iblk1, idx2 t]
theorem blk3 (t : Fin cfg1.N) : iblk1 V c 3 t = V c main_arg13 := by
  funext y
  obtain ⟨n, k, rfl⟩ : ∃ (n : Fin 256) (k : Fin 128), y = ix2 n k := ⟨y 0, y 1, eq_ix2 y⟩
  blk_ext [iblk1, idx3 t]
theorem blk4 (t : Fin cfg1.N) : iblk1 V c 4 t = V c main_arg3 := by
  funext y
  obtain ⟨n, k, rfl⟩ : ∃ (n : Fin 32) (k : Fin 128), y = ix2 n k := ⟨y 0, y 1, eq_ix2 y⟩
  blk_ext [iblk1, idx4 t]
theorem blk5 (t : Fin cfg1.N) : iblk1 V c 5 t = V c main_arg4 := by
  funext y
  obtain ⟨n, k, rfl⟩ : ∃ (n : Fin 32) (k : Fin 128), y = ix2 n k := ⟨y 0, y 1, eq_ix2 y⟩
  blk_ext [iblk1, idx5 t]

variable {V c} {I : Spec.Inp} (E : Entry V c I)

open Classical in
include E in
theorem arr : (dat1 V c).arrAt 7 cfg1.N = fun y => (if Spec.sel I (y 0).val (y 2).val ((y 1).val / 64) then 0 else ⊥ : EReal) := by
  refine (dat1 V c).arrAt_eq_of_covers 7 _ (by decide +kernel) fun t hf y => ?_
  blk_simp
  rw [after1_7]
  obtain ⟨h, k, i, rfl⟩ : ∃ (h : Fin 16) (k : Fin 2048) (i : Fin 32), y = ix3 h k i := ⟨y 0, y 1, y 2, eq_ix3 y⟩
  have e0 : ∀ (i : Fin 32) (h : Fin 16) (k : Fin 256), iblk1 V c 0 t (ix3 i h k) = Spec.pool (Spec.q I h) i k := by
    intro i h k
    refine Eq.trans ?_ (E.qp i h k)
    blk_ext [iblk1, idx0 t]
  have e1 : ∀ (i : Fin 32) (h : Fin 4) (k : Fin 256), iblk1 V c 1 t (ix3 i h k) = Spec.pool (Spec.k I h) i k := by
    intro i h k
    refine Eq.trans ?_ (E.kp i h k)
    blk_ext [iblk1, idx1 t]
  have e6 : ∀ (n : Fin 32) (k : Fin 2048), iblk1 V c 6 t (ix2 n k) = (if (k : ℕ) / 64 = n then 1 else 0 : EReal) := by
    intro n k
    refine Eq.trans ?_ (E.tbl n k)
    blk_ext [iblk1, idx6 t]
  have hQ : ∀ (i : Fin 32) (h : Fin 16) (g : Fin 128), k1_pay4 (iblk1 V c 0 t) (iblk1 V c 2 t) (iblk1 V c 4 t) (iblk1 V c 5 t) (ix3 i h g) = Spec.qgr I h i g := by
    intro i h g
    refine (GateBlock.qg_at _ _ _ _ i h g _ (e0 i h)).trans ?_
    rw [E.wqg _ (blk2 V c t), E.bcos _ (blk4 V c t), E.bsin _ (blk5 V c t)]
    rfl
  have hK : ∀ (i : Fin 32) (h : Fin 4) (g : Fin 128), k1_pay5 (iblk1 V c 1 t) (iblk1 V c 3 t) (iblk1 V c 4 t) (iblk1 V c 5 t) (ix3 i h g) = Spec.kgr I h i g := by
    intro i h g
    refine (GateBlock.kg_at _ _ _ _ i h g _ (e1 i h)).trans ?_
    rw [E.wkg _ (blk3 V c t), E.bcos _ (blk4 V c t), E.bsin _ (blk5 V c t)]
    rfl
  refine (GateBlock.out7_at _ _ _ _ _ _ _ (Spec.qgr I) (Spec.kgr I) hQ hK e6 h k i).trans ?_
  rw [idx7 t]
  simp
  rfl

end Cert.GateRegion
end
-- ==== Proof.Softmax.lean ====
/- The online softmax over the extended reals: a row's maximum, normalizer and weighted sum, taken block by block and rescaled by a power of two
   at each block, are those of the whole prefix; and base two with scores times `1 / log 2` gives the softmax in base `e`. Scores may be `-∞`,
   never `+∞`; the values summed may be anything. -/
module

public import Idealize.ShloMosaic.PureOps.Ideal
public import Idealize.ShloMosaic.Lib.Pointwise

@[expose] public section

noncomputable section

namespace Cert.Softmax

open Idealize.ShloMosaic

/-- The largest of the first `n` scores. -/
def M (b : ℕ → EReal) (n : ℕ) : EReal := (Finset.range n).sup b
/-- The normalizer of the first `n` scores. -/
def L (b : ℕ → EReal) (n : ℕ) : EReal := ∑ t ∈ Finset.range n, Ideal.exp2 (b t - M b n)
/-- The weighted sum of the first `n` values. -/
def A (b v : ℕ → EReal) (n : ℕ) : EReal := ∑ t ∈ Finset.range n, v t * Ideal.exp2 (b t - M b n)

theorem exp2_nonneg (x : EReal) : 0 ≤ Ideal.exp2 x := by
  induction x using EReal.rec with
  | bot => simp
  | top => simp
  | coe r => simpa using EReal.coe_nonneg.mpr (Real.rpow_nonneg (by norm_num) r)

/-- Two rescalings are one. -/
theorem exp2_mul {b m m' : EReal} (h : b ≤ m) (h' : m ≤ m') (ht : m' ≠ ⊤) :
    Ideal.exp2 (b - m) * Ideal.exp2 (m - m') = Ideal.exp2 (b - m') := by
  induction b using EReal.rec with
  | bot => simp [EReal.bot_sub]
  | top => exact absurd (top_le_iff.mp (h.trans h')) ht
  | coe x =>
    induction m using EReal.rec with
    | bot => simp at h
    | top => exact absurd (top_le_iff.mp h') ht
    | coe y =>
      induction m' using EReal.rec with
      | bot => simp at h'
      | top => exact absurd rfl ht
      | coe z =>
        rw [← EReal.coe_sub, ← EReal.coe_sub, ← EReal.coe_sub, Ideal.exp2_coe, Ideal.exp2_coe, Ideal.exp2_coe, ← EReal.coe_mul]
        refine congrArg _ ?_
        rw [show (2 : ℝ).rpow (x - y) = (2 : ℝ) ^ (x - y) from rfl, show (2 : ℝ).rpow (y - z) = (2 : ℝ) ^ (y - z) from rfl,
          ← Real.rpow_add (by norm_num)]
        exact congrArg ((2 : ℝ) ^ ·) (by ring)

theorem exp2_ne_top {m m' : EReal} (h : m ≤ m') (ht : m' ≠ ⊤) : Ideal.exp2 (m - m') ≠ ⊤ := by
  induction m using EReal.rec with
  | bot => simp [EReal.bot_sub]
  | top => exact absurd (top_le_iff.mp h) ht
  | coe y =>
    induction m' using EReal.rec with
    | bot => simp at h
    | top => exact absurd rfl ht
    | coe z => rw [← EReal.coe_sub, Ideal.exp2_coe]; exact EReal.coe_ne_top _

/-- A finite factor that is not negative goes into a sum. -/
theorem sum_mul {ι : Type} (s : Finset ι) (f : ι → EReal) {c : EReal} (h : 0 ≤ c) (ht : c ≠ ⊤) : (∑ i ∈ s, f i) * c = ∑ i ∈ s, f i * c := by
  classical
  induction s using Finset.induction_on with
  | empty => simp
  | insert i s hi ih => rw [Finset.sum_insert hi, Finset.sum_insert hi, EReal.right_distrib_of_nonneg_of_ne_top h ht, ih]

/-- A sum of real numbers. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem le_M (b : ℕ → EReal) {n t : ℕ} (h : t < n) : b t ≤ M b n := Finset.le_sup (Finset.mem_range.mpr h)

theorem M_ne_top {b : ℕ → EReal} (hb : ∀ t, b t ≠ ⊤) (n : ℕ) : M b n ≠ ⊤ :=
  ((Finset.sup_lt_iff (bot_lt_top)).mpr fun t _ => lt_top_iff_ne_top.mpr (hb t)).ne

/-- The maximum, one block of `k` further. -/
theorem M_step (b : ℕ → EReal) (n k : ℕ) : M b (n + k) = max (M b n) (Finset.univ.sup fun i : Fin k => b (n + i)) := by
  refine le_antisymm (Finset.sup_le fun t ht => ?_) (max_le (Finset.sup_le fun t ht => ?_) (Finset.sup_le fun i _ => ?_))
  · have ht' := Finset.mem_range.mp ht
    by_cases h : t < n
    · exact (le_M b h).trans (le_max_left _ _)
    · refine le_trans ?_ (le_max_right _ _)
      have e : b t = b (n + (⟨t - n, by omega⟩ : Fin k)) := congrArg b (by simp; omega)
      rw [e]
      exact Finset.le_sup (f := fun i : Fin k => b (n + i)) (Finset.mem_univ (⟨t - n, by omega⟩ : Fin k))
  · exact le_M b (by have := Finset.mem_range.mp ht; omega)
  · exact le_M b (by omega)

theorem M_mono (b : ℕ → EReal) (n k : ℕ) : M b n ≤ M b (n + k) := (le_max_left _ _).trans (M_step b n k).ge

/-- The weighted sum, one block of `k` further. -/
theorem A_step {b : ℕ → EReal} (hb : ∀ t, b t ≠ ⊤) (v : ℕ → EReal) (n k : ℕ) :
    A b v (n + k) = A b v n * Ideal.exp2 (M b n - M b (n + k)) + ∑ i : Fin k, v (n + i) * Ideal.exp2 (b (n + i) - M b (n + k)) := by
  rw [A, Finset.sum_range_add, A, sum_mul _ _ (exp2_nonneg _) (exp2_ne_top (M_mono b n k) (M_ne_top hb _))]
  refine congrArg₂ (· + ·) (Finset.sum_congr rfl fun t ht => ?_) ?_
  · rw [mul_assoc, exp2_mul (le_M b (Finset.mem_range.mp ht)) (M_mono b n k) (M_ne_top hb _)]
  · rw [Finset.sum_range]

/-- The normalizer is the weighted sum of ones. -/
theorem L_eq (b : ℕ → EReal) (n : ℕ) : L b n = A b (fun _ => 1) n := by simp [L, A]

theorem L_step {b : ℕ → EReal} (hb : ∀ t, b t ≠ ⊤) (n k : ℕ) :
    L b (n + k) = L b n * Ideal.exp2 (M b n - M b (n + k)) + ∑ i : Fin k, Ideal.exp2 (b (n + i) - M b (n + k)) := by
  rw [L_eq, A_step hb, ← L_eq]
  simp

/-- The change of base: scores in base two are those in base `e` times `1 / log 2`. -/
theorem exp2_base {a m : EReal} (ha : a ≠ ⊤) {r : ℝ} (hm : m = r) :
    Ideal.exp2 (a * (((Real.log 2)⁻¹ : ℝ) : EReal) - m * (((Real.log 2)⁻¹ : ℝ) : EReal)) = Ideal.exp (a - m) := by
  have hl : 0 < Real.log 2 := Real.log_pos (by norm_num)
  subst hm
  induction a using EReal.rec with
  | bot => rw [EReal.bot_mul_coe_of_pos (inv_pos.mpr hl), EReal.bot_sub, EReal.bot_sub]; rfl
  | top => exact absurd rfl ha
  | coe x =>
    rw [← EReal.coe_mul, ← EReal.coe_mul, ← EReal.coe_sub, ← EReal.coe_sub, Ideal.exp2_coe, Ideal.exp_coe]
    refine congrArg _ ?_
    rw [show ∀ z : ℝ, (2 : ℝ).rpow z = (2 : ℝ) ^ z from fun _ => rfl, Real.rpow_def_of_pos (by norm_num)]
    refine congrArg _ ?_
    field_simp

/-- The largest of scores, each times a positive factor, is the largest times it. -/
theorem sup_mul {ι : Type} (s : Finset ι) (a : ι → EReal) {c : ℝ} (hc : 0 < c) : (s.sup fun i => a i * (c : EReal)) = s.sup a * (c : EReal) := by
  classical
  induction s using Finset.induction_on with
  | empty => rw [Finset.sup_empty, Finset.sup_empty, EReal.bot_mul_coe_of_pos hc]
  | insert i s hi ih =>
    rw [Finset.sup_insert, Finset.sup_insert, ih]
    have hm : Monotone fun x : EReal => x * (c : EReal) := fun x y h => mul_le_mul_of_nonneg_right h (EReal.coe_nonneg.mpr hc.le)
    exact (hm.map_sup _ _).symm

/-- The quotient of the prefix sums is the softmax-weighted sum over all `K` keys, where the keys from `n` on have the score `-∞`. -/
theorem finish {K n : ℕ} (hn : n ≤ K) (a v : ℕ → EReal) (ha : ∀ t, a t ≠ ⊤) (hz : ∀ t, n ≤ t → a t = ⊥) (t₀ : ℕ) (ht₀ : t₀ < n) (h₀ : a t₀ ≠ ⊥) :
    Ideal.div (A (fun t => a t * (((Real.log 2)⁻¹ : ℝ) : EReal)) v n) (L (fun t => a t * (((Real.log 2)⁻¹ : ℝ) : EReal)) n)
      = ∑ t : Fin K, v t * Ideal.div (Ideal.exp (a t - Finset.univ.sup fun t' : Fin K => a t'))
          (∑ t' : Fin K, Ideal.exp (a t' - Finset.univ.sup fun t'' : Fin K => a t'')) := by
  have hl : 0 < (Real.log 2)⁻¹ := inv_pos.mpr (Real.log_pos (by norm_num))
  -- the row's maximum is a real number
  have hM : M a n = Finset.univ.sup fun t' : Fin K => a t' := by
    refine le_antisymm (Finset.sup_le fun t ht => ?_) (Finset.sup_le fun t _ => ?_)
    · exact Finset.le_sup (f := fun t' : Fin K => a t') (Finset.mem_univ ⟨t, (Finset.mem_range.mp ht).trans_le hn⟩)
    · by_cases h : (t : ℕ) < n
      · exact le_M a h
      · rw [hz t (by omega)]; exact bot_le
  obtain ⟨r, hr⟩ : ∃ r : ℝ, M a n = r := by
    have h1 := M_ne_top ha n
    have h2 : M a n ≠ ⊥ := fun h => h₀ (le_bot_iff.mp (h ▸ le_M a ht₀))
    exact ⟨(M a n).toReal, (EReal.coe_toReal h1 h2).symm⟩
  -- the weights in base `e`
  have hw : ∀ t, Ideal.exp2 (a t * (((Real.log 2)⁻¹ : ℝ) : EReal) - M (fun t => a t * (((Real.log 2)⁻¹ : ℝ) : EReal)) n) = Ideal.exp (a t - M a n) := by
    intro t
    rw [M, sup_mul _ _ hl]
    exact exp2_base (ha t) hr
  -- a sum over the prefix is the sum over all keys, for the weights vanish after it
  have hall : ∀ u : ℕ → EReal, ∑ t ∈ Finset.range n, u t * Ideal.exp (a t - M a n) = ∑ t : Fin K, u t * Ideal.exp (a t - M a n) := by
    intro u
    rw [← Finset.sum_range fun t => u t * Ideal.exp (a t - M a n)]
    refine Finset.sum_subset (Finset.range_mono hn) fun t _ ht => ?_
    rw [hz t (by simpa using ht), EReal.bot_sub, Ideal.exp_bot, mul_zero]
  have hL : L (fun t => a t * (((Real.log 2)⁻¹ : ℝ) : EReal)) n = ∑ t' : Fin K, Ideal.exp (a t' - M a n) := by
    have := hall fun _ => 1
    simp only [one_mul] at this
    rw [← this]
    exact Finset.sum_congr rfl fun t _ => hw t
  have hA : A (fun t => a t * (((Real.log 2)⁻¹ : ℝ) : EReal)) v n = ∑ t : Fin K, v t * Ideal.exp (a t - M a n) := by
    rw [← hall v]
    exact Finset.sum_congr rfl fun t _ => congrArg _ (hw t)
  -- the normalizer is a positive real number
  have hreal : ∀ t, ∃ x : ℝ, 0 ≤ x ∧ Ideal.exp (a t - M a n) = x := by
    intro t
    rw [hr]
    have := ha t
    induction h : a t using EReal.rec with
    | bot => exact ⟨0, le_rfl, by rw [EReal.bot_sub]; rfl⟩
    | top => exact absurd h this
    | coe x => exact ⟨Real.exp (x - r), (Real.exp_pos _).le, by rw [← EReal.coe_sub]; rfl⟩
  choose x hx0 hx using hreal
  have hsum : ∑ t' : Fin K, Ideal.exp (a t' - M a n) = ((∑ t' : Fin K, x t' : ℝ) : EReal) := by
    rw [coe_sum]
    exact Finset.sum_congr rfl fun t _ => hx t
  have hpos : 0 < ∑ t' : Fin K, x t' := by
    refine Finset.sum_pos' (fun t _ => hx0 t) ⟨⟨t₀, ht₀.trans_le hn⟩, Finset.mem_univ _, ?_⟩
    refine lt_of_le_of_ne (hx0 t₀) fun h => ?_
    have e := hx t₀
    rw [← h, hr] at e
    induction h' : a t₀ using EReal.rec with
    | bot => exact h₀ h'
    | top => exact ha t₀ h'
    | coe y =>
      rw [h', ← EReal.coe_sub, Ideal.exp_coe] at e
      exact (Real.exp_pos _).ne' (EReal.coe_eq_coe_iff.mp e)
  rw [hL, hA, ← hM, hsum, Ideal.div_coe hpos.ne', sum_mul _ _ (EReal.coe_nonneg.mpr (by positivity)) (EReal.coe_ne_top _)]
  refine Finset.sum_congr rfl fun t _ => ?_
  rw [Ideal.div_coe hpos.ne', mul_assoc]

end Cert.Softmax
end
-- ==== Proof.AttnBlock.lean ====
/- What one block of the attention kernel computes, read at one query: the scores of a key block, the rescaled maximum, normalizer and weighted
   sum after it, the causal mask of the last block and the quotient. -/
module

public import proofs.«01_k».proof.Proof.ProjBlock
public import proofs.«01_k».proof.Proof.Softmax

@[expose] public section

set_option maxRecDepth 16384

noncomputable section

namespace Cert.AttnBlock

open Idealize.ShloMosaic Idealize.ShloMosaic.TcCoe Idealize.ShloMosaic.Tactic Cert.KernelIdeal Cert.KernelIdeal.Gen
open Cert.Softmax (M L A)

/-- The word of a small number divided by 64, rounded toward minus infinity as the kernel spells it. -/
theorem div64 : ∀ q : Fin 256, Scalar.select
      (IntOp.andi
        (IntOp.cmpi .ne
          (IntOp.subi (BitVec.setWidth 32 (IntOp.cmpi .sgt (BitVec.ofNat 32 q) 0#32)) (BitVec.setWidth 32 (IntOp.cmpi .slt (BitVec.ofNat 32 q) 0#32)))
          (Scalar.subi (Scalar.extui (Scalar.cmpi .sgt 64#32 0#32)) (Scalar.extui (Scalar.cmpi .slt 64#32 0#32))))
        (IntOp.cmpi .ne (IntOp.remsi ArithUnit.vector (BitVec.ofNat 32 q) 64#32) 0#32))
      (IntOp.subi (IntOp.divsi ArithUnit.vector (BitVec.ofNat 32 q) 64#32) 1#32)
      (IntOp.divsi ArithUnit.vector (BitVec.ofNat 32 q) 64#32) = BitVec.ofNat 32 (q / 64) := by decide +kernel

theorem mul4 : ∀ a : Fin 8, Scalar.muli (BitVec.ofNat 32 a) 4#32 = BitVec.ofNat 32 (a * 4) := by decide +kernel
theorem mul256 : ∀ a : Fin 8, Scalar.muli (BitVec.ofNat 32 a) 256#32 = BitVec.ofNat 32 (a * 256) := by decide +kernel

/-- The word sum of two small numbers. -/
theorem add_small (a b : ℕ) : IntOp.addi (BitVec.ofNat 32 a) (BitVec.ofNat 32 b) = BitVec.ofNat 32 (a + b) := (BitVec.ofNat_add a b).symm

/-- The number of a comparison's bit. -/
theorem bit_number (p : Bool) : (FloatOps.sitofp (F := Ideal) .f32 (BitVec.setWidth 32 (BitVec.ofBool p)) : EReal) = if p then 1 else 0 := by
  cases p <;> simp [FloatOps.sitofp]

/-- The query blocks' table: entry `n`, `q` is 1 where `n` is the number of the 64-token block of query `q` of grid row `i 1`. -/
theorem tbl_at (i : grid2.Coords) (n : Fin 32) (q : Fin 256) :
    k2_pay3 (F := Ideal) i (ix2 n q) = if n.val = (i 1).val * 4 + q / 64 then 1 else 0 := by
  have hi : (i 1).val < 8 := (i 1).isLt
  pointwise [k2_pay3]
  rw [div64 q, mul4 (i 1), add_small, Scalars.eq_small _ _ (by omega) (by omega), bit_number]
  simp

/-- A key block's scores. -/
theorem score_at (x : Vec Ideal S1x256x128 .bf16) (e : FVec Ideal S32x256 .bf16) (k : Vec Ideal S1x256x128 .bf16) (g : Vec Ideal S1x256x32 .bf16)
    (a q : Fin 256) :
    k2_pay9 (k2_pay2 x) e k g (ix2 a q) = (∑ d : Fin 128, k (ix3 0 a d) * x (ix3 0 q d)) + ∑ n : Fin 32, g (ix3 0 a n) * e (ix2 n q) := by
  pointwise [k2_pay9, k2_pay2]

theorem score0 : @k2_pay8 Ideal _ = @k2_pay9 Ideal _ := rfl

/-- The causal mask of the last block. -/
theorem mask_at (i : grid2.Coords) (s : FVec Ideal S256x256 .f32) (a q : Fin 256) :
    k2_pay21 (BitVec.ofNat 32 (i 1).val) (iota .tc S256x256 32 [0] iota_S256x256_d0_w32) (k2_pay4 i) s (ix2 a q)
      = if (a : ℕ) ≤ q then s (ix2 a q) else ⊥ := by
  have hi : (i 1).val < 8 := (i 1).isLt
  pointwise [k2_pay21, k2_pay4]
  rw [mul256 (i 1), add_small, add_small, Scalars.sle_small _ _ (by omega) (by omega), Scalars.select_bit,
    IdealRules.named_const.ideal_named_scalar _ _ _ _ rfl]
  exact if_congr (by omega) rfl rfl

/-- The initial state. -/
theorem init_at (q : Fin 256) (d : Fin 128) :
    k2_pay5 (F := Ideal) (ix2 0 q) = (⊥ : EReal) ∧ k2_pay6 (F := Ideal) (ix2 0 q) = (0 : EReal) ∧ k2_pay7 (F := Ideal) (ix2 d q) = (0 : EReal) := by
  refine ⟨?_, ?_, ?_⟩
  · pointwise [k2_pay5]
    exact IdealRules.named_const.ideal_named_scalar _ _ _ _ rfl
  · pointwise [k2_pay6]
  · pointwise [k2_pay7]

section step

variable (m l : FVec Ideal S1x256 .f32) (acc : FVec Ideal S128x256 .f32) (s : FVec Ideal S256x256 .f32) (v : Vec Ideal S1x256x128 .bf16)
variable {b : ℕ → EReal} {n : ℕ} (q : Fin 256) (hs : ∀ a : Fin 256, s (ix2 a q) = b (n + a)) (hb : ∀ t, b t ≠ ⊤)
variable (hm : m (ix2 0 q) = M b n)

include hs hm in
theorem max_step : k2_pay10 m s (ix2 0 q) = M b (n + 256) := by
  have h0 : k2_pay10 m s (ix2 0 q) = max (m (ix2 0 q)) (Finset.univ.sup fun a : Fin 256 => s (ix2 a q)) := by
    pointwise [k2_pay10]
    rw [Scalars.fold_max]
  rw [h0, hm, Softmax.M_step]
  simp only [hs]

include hs hm in
theorem scale_step : k2_pay11 m s (ix2 0 q) = Ideal.exp2 (M b n - M b (n + 256)) := by
  have h := max_step m s q hs hm
  unfold k2_pay11
  generalize k2_pay10 m s = m' at *
  rw [← h, ← hm]
  pointwise []
  rfl

include hs hm in
theorem weight_step (a : Fin 256) : k2_pay12 m s (ix2 a q) = Ideal.exp2 (b (n + a) - M b (n + 256)) := by
  have h := max_step m s q hs hm
  unfold k2_pay12
  generalize k2_pay10 m s = m' at *
  rw [← h, ← hs a]
  pointwise []
  rfl

include hs hm hb in
theorem norm_step (hl : l (ix2 0 q) = L b n) : k2_pay13 m l s (ix2 0 q) = L b (n + 256) := by
  have h := scale_step m s q hs hm
  have h' := weight_step m s q hs hm
  unfold k2_pay13
  generalize k2_pay11 m s = c at *
  generalize k2_pay12 m s = w at *
  rw [Softmax.L_step hb, ← hl, ← h]
  simp only [← h']
  pointwise []

include hs hm hb in
theorem sum_step {u : ℕ → EReal} (d : Fin 128) (ha : acc (ix2 d q) = A b u n) (hv : ∀ a : Fin 256, v (ix3 0 a d) = u (n + a)) :
    k2_pay14 m acc s v (ix2 d q) = A b u (n + 256) := by
  have h := scale_step m s q hs hm
  have h' := weight_step m s q hs hm
  unfold k2_pay14
  generalize k2_pay11 m s = c at *
  generalize k2_pay12 m s = w at *
  rw [Softmax.A_step hb, ← ha, ← h]
  simp only [← h', ← hv]
  pointwise []

end step

/-- The last block: the same step at the masked scores, then the quotient. -/
theorem last_at (g : BitVec 32) (r c : IVec S256x256 32) (m l : FVec Ideal S1x256 .f32) (acc : FVec Ideal S128x256 .f32) (s : FVec Ideal S256x256 .f32)
    (v : Vec Ideal S1x256x128 .bf16) (z : Fin 1) (d : Fin 128) (q : Fin 256) :
    k2_pay1 acc (k2_pay23 g r c m s) (k2_pay25 g r c m l s) (k2_pay26 g r c m s v) (ix3 z d q)
      = Ideal.div (k2_pay14 m acc (k2_pay21 g r c s) v (ix2 d q)) (k2_pay13 m l (k2_pay21 g r c s) (ix2 0 q)) := by
  have e1 : k2_pay23 g r c m s = k2_pay11 m (k2_pay21 g r c s) := rfl
  have e2 : k2_pay25 g r c m l s = k2_pay13 m l (k2_pay21 g r c s) := rfl
  have e3 : k2_pay24 g r c m s = k2_pay12 m (k2_pay21 g r c s) := rfl
  unfold k2_pay26
  rw [e1, e2, e3]
  unfold k2_pay14
  generalize k2_pay13 m l (k2_pay21 g r c s) = l'
  generalize k2_pay11 m (k2_pay21 g r c s) = a'
  generalize k2_pay12 m (k2_pay21 g r c s) = w'
  pointwise [k2_pay1]

end Cert.AttnBlock
end
-- ==== Proof.AttnLoop.lean ====
module
public import proofs.«01_k».proof.Proof.AttnBlock
public import Idealize.ShloMosaic.Lib.Pipeline.Value
@[expose] public section
set_option maxRecDepth 16384
noncomputable section

/-!
The attention body's loop over the key blocks and the block it writes. Before trip `j` the state holds, for each query, the largest of the
first `256 j` scores, their normalizer, the weighted sum of their values, and the scores of block `j`, not yet used.
-/

namespace Cert.AttnLoop
open Idealize.ShloMosaic Idealize.ShloMosaic.TcCoe Idealize.ShloMosaic.Tactic Cert.KernelIdeal Cert.KernelIdeal.Gen
open Idealize.SL.Sem
open Softmax (M L A)

theorem hz : (![0, 0, 0] : Fin 3 → ℕ) = fun _ => 0 := funext fun a => by fin_cases a <;> rfl

/-- The first loop runs once for each block before the last, the second not at all. -/
theorem trips1 : ∀ a : Fin 8, Scf.trips (1#32)
    (Scalar.addi (1#32) (Scalar.muli (Scalar.divsi (Scalar.subi (Scalar.addi (BitVec.ofNat 32 a) 1#32) 1#32) 1#32) 1#32)) 1#32 = a := by
  decide +kernel
theorem trips2 : ∀ a : Fin 8, Scf.trips
    (Scalar.addi (1#32) (Scalar.muli (Scalar.divsi (Scalar.subi (Scalar.addi (BitVec.ofNat 32 a) 1#32) 1#32) 1#32) 1#32))
    (Scalar.addi (1#32) (Scalar.subi (Scalar.addi (BitVec.ofNat 32 a) 1#32) 1#32)) 1#32 = 0 := by
  decide +kernel

/-- Trip `k` reads keys and mask at block `k + 1` and values at block `k`; after the loop the values are read at the last block. -/
theorem word1 : ∀ k : Fin 8, (Scalar.indexCast (Scalar.muli (Scf.iv 1#32 1#32 k) 256#32) : Index).toNat = 256 * (k + 1) := by decide +kernel
theorem word3 : ∀ k : Fin 8, (Scalar.indexCast (Scalar.muli (Scalar.subi (Scf.iv 1#32 1#32 k) 1#32) 256#32) : Index).toNat = 256 * k := by
  decide +kernel
theorem word7 : ∀ a : Fin 8, (Scalar.indexCast (Scalar.muli (BitVec.ofNat 32 a) 256#32) : Index).toNat = 256 * a := by decide +kernel

/-- Rows of an array read from row `256 j` on. -/
theorem ld_rows {n j : ℕ} {e : EltTy} (x : Vec Ideal ⟨3, ![1, 2048, n]⟩ e) (off : Fin 3 → ℕ) (hoff : off = ![0, 256 * j, 0]) (hj : j < 8)
    (inb : ∀ a, off a + ![1, 256, n] a ≤ (⟨3, ![1, 2048, n]⟩ : Shape).size a) (a : Fin 256) (d : Fin n) :
    View.ld x (Rect.unit (s := ⟨3, ![1, 2048, n]⟩) off ![1, 256, n] inb) (ix3 0 a d) = x (ix3 0 ⟨256 * j + a, by omega⟩ d) := by
  subst hoff
  refine View.ld_unit_apply_of x _ _ inb _ _ fun z => ?_
  fin_cases z <;> simp

variable (c : Dev nD) (i : grid2.Coords)
  (a2 : Memref sig .tc .vmem S1x256x128 .bf16) (h2 : a2.IsWhole) (a3 : Memref sig .tc .vmem S1x2048x128 .bf16) (h3 : a3.IsWhole)
  (a4 : Memref sig .tc .vmem S1x2048x128 .bf16) (h4 : a4.IsWhole) (a5 : Memref sig .tc .vmem S1x2048x32 .bf16) (h5 : a5.IsWhole)
  (a6 : Memref sig .tc .vmem S1x128x256 .bf16) (h6 : a6.IsWhole)
  (x0 : Vec Ideal S1x256x128 .bf16) (x1 x2 : Vec Ideal S1x2048x128 .bf16) (x3 : Vec Ideal S1x2048x32 .bf16)

/-- The state a loop carries. -/
abbrev St : Type :=
  FVec Ideal S1x256 .f32 × FVec Ideal S1x256 .f32 × FVec Ideal S128x256 .f32 × FVec Ideal S256x256 .f32

/-- One trip. -/
theorem trip (g : BitVec 32) (v1 : FVec Ideal S256x128 .bf16) (v34 : FVec Ideal S32x256 .bf16) (v35 v39 : IVec S256x256 32)
    (v40 v41 : FVec Ideal S1x256 .f32) (v42 : FVec Ideal S128x256 .f32) (k : Fin (k2_t1_loop i).trips) (s : St) :
    tripR_k2_t1 (F := Ideal) Variants.none c none i a2 h2 a3 h3 a4 h4 a5 h5 a6 h6 g v1 v34 v35 v39 v40 v41 v42 (h3.unread x1) (h4.unread x2) (h5.unread x3) k s
      = (k2_pay10 s.1 s.2.2.2, k2_pay13 s.1 s.2.1 s.2.2.2,
          k2_pay14 s.1 s.2.2.1 s.2.2.2 (View.ld x2 (Rect.unit (s := S1x2048x128) (k2_off3 i k) ![1, 256, 128] (k2_off3_inb i k))),
          k2_pay9 v1 v34 (View.ld x1 (Rect.unit (s := S1x2048x128) (k2_off1 i k) ![1, 256, 128] (k2_off1_inb i k)))
            (View.ld x3 (Rect.unit (s := S1x2048x32) (k2_off2 i k) ![1, 256, 32] (k2_off2_inb i k)))) := by
  unfold tripR_k2_t1 trip_k2_t1
  dsimp only
  simp only [View.readAt_eq_ld, h3.read_unread, h4.read_unread, h5.read_unread]

/-- The state before trip `n`. -/
def st (n : ℕ) : St :=
  st_k2_t1 (F := Ideal) Variants.none c none i a2 h2 a3 h3 a4 h4 a5 h5 a6 h6 (BitVec.ofNat 32 (i 1).val) (k2_pay2 x0) (k2_pay3 i)
    (iota .tc S256x256 32 [0] iota_S256x256_d0_w32) (k2_pay4 i) k2_pay5 k2_pay6 k2_pay7 (h3.unread x1) (h4.unread x2) (h5.unread x3)
    (k2_pay5, k2_pay6, k2_pay7,
      k2_pay8 (k2_pay2 x0) (k2_pay3 i) (View.ld x1 (Rect.unit (s := S1x2048x128) ![0, 0, 0] ![1, 256, 128] inb_S1x2048x128_S1x256x128_0_0_0))
        (View.ld x3 (Rect.unit (s := S1x2048x32) ![0, 0, 0] ![1, 256, 32] inb_S1x2048x32_S1x256x32_0_0_0))) n

/-- The block written: the last block's step on the state after the loop. -/
theorem out_eq : out2_A_4 c i a2 h2 a3 h3 a4 h4 a5 h5 a6 h6 x0 x1 x2 x3
    = (let s := st c i a2 h2 a3 h3 a4 h4 a5 h5 a6 h6 x0 x1 x2 x3 (i 1).val
       let g := BitVec.ofNat 32 (i 1).val
       let r := iota .tc S256x256 32 [0] iota_S256x256_d0_w32
       k2_pay1 s.2.2.1 (k2_pay23 g r (k2_pay4 i) s.1 s.2.2.2) (k2_pay25 g r (k2_pay4 i) s.1 s.2.1 s.2.2.2)
        (k2_pay26 g r (k2_pay4 i) s.1 s.2.2.2 (View.ld x2 (Rect.unit (s := S1x2048x128) (k2_off7 i) ![1, 256, 128] (k2_off7_inb i))))) := by
  unfold out2_A_4
  rw [View.read_writes_eq_canon _ _ _ (cover2_A_4 c i a2 h2 a3 h3 a4 h4 a5 h5 a6 h6 x0 x1 x2 x3)]
  unfold kernelRun2_A
  dsimp only
  rw [View.canon_unit_zero hz]
  sl_unfold_words
  dsimp only
  simp only [View.readAt_eq_ld, h2.read_unread, h3.read_unread, h4.read_unread, h5.read_unread, View.ld_unit_zero (S := S1x256x128) hz]
  rw [trips2 (i 1), trips1 (i 1)]
  simp only [st_k2_t2_zero]
  rfl

section value

/- The block scores' rows: `raw q t` is query `q`'s score of key `t` without the causal mask, `u t` the values' lane `d`. -/
variable {raw b u : ℕ → EReal} (q : Fin 256) (d : Fin 128)
variable (hraw : ∀ t : Fin 2048, (∑ z : Fin 128, x1 (ix3 0 t z) * x0 (ix3 0 q z))
    + ∑ n : Fin 32, x3 (ix3 0 t n) * (if n.val = (i 1).val * 4 + q / 64 then 1 else 0) = raw t)
variable (hu : ∀ t : Fin 2048, x2 (ix3 0 t d) = u t)
variable (hb : ∀ t, b t ≠ ⊤) (hin : ∀ t, t < 256 * (i 1).val → raw t = b t)
variable (hlast : ∀ a : Fin 256, b (256 * (i 1).val + a) = if (a : ℕ) ≤ q then raw (256 * (i 1).val + a) else ⊥)

include hraw in
/-- The scores of block `j`. -/
theorem scores (j : ℕ) (hj : j < 8) (o1 o2 : Fin 3 → ℕ) (e1 : o1 = ![0, 256 * j, 0]) (e2 : o2 = ![0, 256 * j, 0])
    (inb1 : ∀ a, o1 a + ![1, 256, 128] a ≤ S1x2048x128.size a) (inb2 : ∀ a, o2 a + ![1, 256, 32] a ≤ S1x2048x32.size a) (a : Fin 256) :
    k2_pay9 (k2_pay2 x0) (k2_pay3 i) (View.ld x1 (Rect.unit (s := S1x2048x128) o1 ![1, 256, 128] inb1))
      (View.ld x3 (Rect.unit (s := S1x2048x32) o2 ![1, 256, 32] inb2)) (ix2 a q) = raw (256 * j + a) := by
  refine (AttnBlock.score_at _ _ _ _ a q).trans (Eq.trans ?_ (hraw ⟨256 * j + a, by omega⟩))
  exact congrArg₂ (· + ·)
    (Finset.sum_congr rfl fun z _ => congrArg (· * x0 (ix3 0 q z)) (ld_rows x1 o1 e1 hj inb1 a z))
    (Finset.sum_congr rfl fun n _ => congrArg₂ (· * ·) (ld_rows x3 o2 e2 hj inb2 a n) (AttnBlock.tbl_at i n q))

include hraw hu hb hin in
/-- The state before trip `j`. -/
theorem before (j : ℕ) (hj : j ≤ (i 1).val) :
    let s := st c i a2 h2 a3 h3 a4 h4 a5 h5 a6 h6 x0 x1 x2 x3 j
    s.1 (ix2 0 q) = M b (256 * j) ∧ s.2.1 (ix2 0 q) = L b (256 * j) ∧ s.2.2.1 (ix2 d q) = A b u (256 * j)
      ∧ ∀ a : Fin 256, s.2.2.2 (ix2 a q) = raw (256 * j + a) := by
  have hi : (i 1).val < 8 := (i 1).isLt
  induction j with
  | zero =>
    obtain ⟨z1, z2, z3⟩ := AttnBlock.init_at q d
    refine ⟨z1.trans (by simp [Softmax.M]), z2.trans (by simp [Softmax.L]), z3.trans (by simp [Softmax.A]), fun a => ?_⟩
    exact scores i x0 x1 x3 q hraw 0 (by omega) _ _ rfl rfl _ _ a
  | succ j ih =>
    obtain ⟨i1, i2, i3, i4⟩ := ih (by omega)
    have ht : (k2_t1_loop i).trips = (i 1).val := trips1 (i 1)
    have hs : st c i a2 h2 a3 h3 a4 h4 a5 h5 a6 h6 x0 x1 x2 x3 (j + 1) = _ :=
      (st_k2_t1_succ (F := Ideal) Variants.none c none i a2 h2 a3 h3 a4 h4 a5 h5 a6 h6 _ _ _ _ _ _ _ _ _ _ _ _ ⟨j, by omega⟩).trans
        (trip c i a2 h2 a3 h3 a4 h4 a5 h5 a6 h6 x1 x2 x3 _ _ _ _ _ _ _ _ _ _)
    have hsc : ∀ a : Fin 256, (st c i a2 h2 a3 h3 a4 h4 a5 h5 a6 h6 x0 x1 x2 x3 j).2.2.2 (ix2 a q) = b (256 * j + a) :=
      fun a => (i4 a).trans (hin _ (by omega))
    rw [hs]
    refine ⟨AttnBlock.max_step _ _ q hsc i1, AttnBlock.norm_step _ _ _ q hsc hb i1 i2, AttnBlock.sum_step _ _ _ _ q hsc hb i1 d i3 fun a => ?_, fun a => ?_⟩
    · refine (ld_rows x2 _ ?_ (by omega) _ a d).trans (hu _)
      exact congrArg (fun z => ![0, z, 0]) (word3 ⟨j, by omega⟩)
    · exact scores i x0 x1 x3 q hraw (j + 1) (by omega) _ _ (congrArg (fun z => ![0, z, 0]) (word1 ⟨j, by omega⟩))
        (congrArg (fun z => ![0, z, 0]) (word1 ⟨j, by omega⟩)) _ _ a

include hraw hu hb hin hlast in
/-- The block written, at lane `d` and query `q`: the weighted sum over the normalizer, of all keys of the blocks up to the query's. -/
theorem out_at (z : Fin 1) : out2_A_4 c i a2 h2 a3 h3 a4 h4 a5 h5 a6 h6 x0 x1 x2 x3 (ix3 z d q)
    = Ideal.div (A b u (256 * (i 1).val + 256)) (L b (256 * (i 1).val + 256)) := by
  have hi : (i 1).val < 8 := (i 1).isLt
  obtain ⟨i1, i2, i3, i4⟩ := before c i a2 h2 a3 h3 a4 h4 a5 h5 a6 h6 x0 x1 x2 x3 q d hraw hu hb hin (i 1).val le_rfl
  have hsc : ∀ a : Fin 256, k2_pay21 (BitVec.ofNat 32 (i 1).val) (iota .tc S256x256 32 [0] iota_S256x256_d0_w32) (k2_pay4 i)
      (st c i a2 h2 a3 h3 a4 h4 a5 h5 a6 h6 x0 x1 x2 x3 (i 1).val).2.2.2 (ix2 a q) = b (256 * (i 1).val + a) := by
    intro a
    rw [AttnBlock.mask_at, i4, hlast]
  rw [out_eq]
  refine (AttnBlock.last_at _ _ _ _ _ _ _ _ z d q).trans (congrArg₂ Ideal.div ?_ ?_)
  · refine AttnBlock.sum_step _ _ _ _ q hsc hb i1 d i3 fun a => (ld_rows x2 _ ?_ hi _ a d).trans (hu _)
    exact congrArg (fun z => ![0, z, 0]) (word7 (i 1))
  · exact AttnBlock.norm_step _ _ _ q hsc hb i1 i2

end value

end Cert.AttnLoop
end
-- ==== Proof.AttnRegion.lean ====
/- The attention's array: at head `h`, lane `d` and query `s` it holds the attention output `Spec.ctx` of head `h`, query `s`, lane `d`. -/
module

public import proofs.«01_k».proof.Proof.AttnLoop
public import proofs.«01_k».proof.Proof.ProjBlock

@[expose] public section

set_option maxRecDepth 16384

noncomputable section

namespace Cert.AttnRegion

open Idealize.ShloMosaic Idealize.ShloMosaic.TcCoe Idealize.ShloMosaic.Tactic Cert.KernelIdeal Cert.KernelIdeal.Gen
open Idealize.ShloMosaic.Pipeline (Dat)
open Cert.Spec (r128)
open Cert.ProjBlock (qscale)

/-- The root of the head width is a real number. -/
theorem r128_eq : r128 = ((Real.sqrt 128 : ℝ) : EReal) := by
  rw [Spec.r128, Scalars.ofBits_128, Ideal.sqrt_coe, if_neg (by norm_num)]

/-- A real product scaled by the query's factor is the score in units of `log 2`. -/
theorem scaled (r : ℝ) : (r : EReal) * qscale = Ideal.div r r128 * (((Real.log 2)⁻¹ : ℝ) : EReal) := by
  have h : Real.sqrt 128 ≠ 0 := by positivity
  rw [r128_eq, Ideal.div_coe h, qscale, ← EReal.coe_mul, ← EReal.coe_mul, ← EReal.coe_mul]
  congr 1
  rw [one_div, mul_assoc]

open Classical in
/-- The score of key `t` without the causal mask. -/
def raw (I : Spec.Inp) (h s t : ℕ) : EReal :=
  (if Spec.sel I h (s / 64) (t / 64) then Ideal.div (Spec.dot I h s t) r128 else ⊥) * (((Real.log 2)⁻¹ : ℝ) : EReal)

theorem log_pos' : 0 < (Real.log 2)⁻¹ := inv_pos.mpr (Real.log_pos (by norm_num))

variable {I : Spec.Inp} (hI : ∀ h s t, ∃ r : ℝ, Spec.dot I h s t = r)

/-- Under the causal mask it is the score. -/
theorem raw_of_le (h s t : ℕ) (ht : t ≤ s) : Spec.score I h s t * (((Real.log 2)⁻¹ : ℝ) : EReal) = raw I h s t := by
  unfold Spec.score raw
  by_cases hs : Spec.sel I h (s / 64) (t / 64)
  · rw [if_pos ⟨hs, ht⟩, if_pos hs]
  · rw [if_neg fun e => hs e.1, if_neg hs]

/-- A later key's score is `-∞`. -/
theorem score_of_lt (h s t : ℕ) (ht : s < t) : Spec.score I h s t = ⊥ := by
  simp [Spec.score, not_le.mpr ht]

include hI in
theorem score_ne_top (h s t : ℕ) : Spec.score I h s t ≠ ⊤ := by
  obtain ⟨r, hr⟩ := hI h s t
  have hq : Real.sqrt 128 ≠ 0 := by positivity
  unfold Spec.score
  split
  · rw [hr, r128_eq, Ideal.div_coe hq, ← EReal.coe_mul]
    exact EReal.coe_ne_top _
  · exact bot_ne_top

include hI in
/-- A query's own score is not `-∞`. -/
theorem score_self (h s : ℕ) : Spec.score I h s s ≠ ⊥ := by
  obtain ⟨r, hr⟩ := hI h s s
  have hq : Real.sqrt 128 ≠ 0 := by positivity
  have hs : Spec.sel I h (s / 64) (s / 64) := ⟨Or.inr rfl, le_rfl⟩
  rw [Spec.score, if_pos ⟨hs, le_rfl⟩, hr, r128_eq, Ideal.div_coe hq, ← EReal.coe_mul]
  exact EReal.coe_ne_bot _

include hI in
theorem scaled_ne_top (h s t : ℕ) : Spec.score I h s t * (((Real.log 2)⁻¹ : ℝ) : EReal) ≠ ⊤ := by
  have ht := score_ne_top hI h s t
  generalize Spec.score I h s t = x at *
  induction x using EReal.rec with
  | bot => rw [EReal.bot_mul_coe_of_pos log_pos']; exact bot_ne_top
  | top => exact absurd rfl ht
  | coe r => rw [← EReal.coe_mul]; exact EReal.coe_ne_top _

include hI in
/-- The weighted sum over the normalizer, of the keys of the blocks up to the query's, is the attention output. -/
theorem finish (h s d n : ℕ) (hs : s < n) (hn : n ≤ 2048) :
    Ideal.div (Softmax.A (fun t => Spec.score I h s t * (((Real.log 2)⁻¹ : ℝ) : EReal)) (fun t => Spec.v I (h / 4) t d) n)
      (Softmax.L (fun t => Spec.score I h s t * (((Real.log 2)⁻¹ : ℝ) : EReal)) n) = Spec.ctx I h s d :=
  Softmax.finish hn (Spec.score I h s) _ (score_ne_top hI h s) (fun t ht => score_of_lt h s t (by omega)) s hs (score_self hI h s)

open Classical in
include hI in
/-- The block score as the kernel sums it. -/
theorem raw_at (h s t b : ℕ) (x y : Fin 128 → EReal) (g : Fin 32 → EReal) (hx : ∀ z : Fin 128, x z = Spec.kr I (h / 4) t z)
    (hy : ∀ z : Fin 128, y z = Spec.qr I h s z * qscale)
    (hg : ∀ n : Fin 32, g n = if Spec.sel I h n (t / 64) then 0 else ⊥) (hb : b = s / 64) (hb' : b < 32) :
    (∑ z : Fin 128, x z * y z) + ∑ n : Fin 32, g n * (if n.val = b then 1 else 0) = raw I h s t := by
  obtain ⟨r, hr⟩ := hI h s t
  have hd : ∑ z : Fin 128, x z * y z = (r : EReal) * qscale := by
    rw [← hr, Spec.dot, qscale, Softmax.sum_mul _ _ (EReal.coe_nonneg.mpr (by have := log_pos'; positivity)) (EReal.coe_ne_top _)]
    refine Finset.sum_congr rfl fun z _ => ?_
    rw [hx, hy, qscale]
    ac_rfl
  have hn : ∑ n : Fin 32, g n * (if n.val = b then 1 else 0) = g ⟨b, hb'⟩ := by
    refine (Finset.sum_eq_single (⟨b, hb'⟩ : Fin 32) (fun n _ hne => ?_) (fun hh => absurd (Finset.mem_univ _) hh)).trans (by simp)
    rw [if_neg (fun e => hne (Fin.ext e)), mul_zero]
  rw [hd, hn, hg, raw, hr, scaled]
  subst hb
  split
  · rw [add_zero]
  · rw [EReal.add_bot, EReal.bot_mul_coe_of_pos log_pos']

variable (V : (c : Dev nD) → (b : Ref sig .tc) → Buf (Elt Ideal) ((c : Thread nD τ).loc b)) (c : Dev nD)

open Classical in
/-- The arrays the attention kernel is entered with, over the inputs `I`. -/
structure Entry (I : Spec.Inp) : Prop where
  q : ∀ (h : Fin 16) (s : Fin 2048) (d : Fin 128), V c main_v4_0 (ix3 h s d) = Spec.qr I h s d * qscale
  k : ∀ (g : Fin 4) (s : Fin 2048) (d : Fin 128), V c main_v4_1 (ix3 g s d) = Spec.kr I g s d
  v : ∀ (g : Fin 4) (s : Fin 2048) (d : Fin 128), V c main_v4_2 (ix3 g s d) = Spec.v I g s d
  gate : ∀ (h : Fin 16) (t : Fin 2048) (n : Fin 32), V c main_v10 (ix3 h t n) = (if Spec.sel I h n (t / 64) then 0 else ⊥ : EReal)

theorem idx0 : ∀ t, win2_0.index t = ![(grid2.coords t 0).val, (grid2.coords t 1).val, 0] := by decide +kernel
theorem idx1 : ∀ t, win2_1.index t = ![(grid2.coords t 0).val / 4, 0, 0] := by decide +kernel
theorem idx2 : ∀ t, win2_2.index t = ![(grid2.coords t 0).val / 4, 0, 0] := by decide +kernel
theorem idx3 : ∀ t, win2_3.index t = ![(grid2.coords t 0).val, 0, 0] := by decide +kernel
theorem idx4 : ∀ t, win2_4.index t = ![(grid2.coords t 0).val, 0, (grid2.coords t 1).val] := by decide +kernel

variable {V c} (E : Entry V c I)

include E in
theorem blk0 (t : Fin cfg2.N) (H J : ℕ) (hH : (grid2.coords t 0).val = H) (hJ : (grid2.coords t 1).val = J) (hh : H < 16) (hi : J < 8) (q : Fin 256)
    (d : Fin 128) : iblk2 V c 0 t (ix3 0 q d) = Spec.qr I H (256 * J + q) d * qscale := by
  refine Eq.trans ?_ (E.q ⟨H, hh⟩ ⟨256 * J + q, by omega⟩ d)
  subst hH hJ
  blk_ext [iblk2, idx0 t]

include E in
theorem blk1 (t : Fin cfg2.N) (H : ℕ) (hH : (grid2.coords t 0).val = H) (hh : H < 16) (k : Fin 2048) (d : Fin 128) :
    iblk2 V c 1 t (ix3 0 k d) = Spec.kr I (H / 4) k d := by
  refine Eq.trans ?_ (E.k ⟨H / 4, by omega⟩ k d)
  subst hH
  blk_ext [iblk2, idx1 t]

include E in
theorem blk2 (t : Fin cfg2.N) (H : ℕ) (hH : (grid2.coords t 0).val = H) (hh : H < 16) (k : Fin 2048) (d : Fin 128) :
    iblk2 V c 2 t (ix3 0 k d) = Spec.v I (H / 4) k d := by
  refine Eq.trans ?_ (E.v ⟨H / 4, by omega⟩ k d)
  subst hH
  blk_ext [iblk2, idx2 t]

open Classical in
include E in
theorem blk3 (t : Fin cfg2.N) (H : ℕ) (hH : (grid2.coords t 0).val = H) (hh : H < 16) (k : Fin 2048) (n : Fin 32) :
    iblk2 V c 3 t (ix3 0 k n) = (if Spec.sel I H n (k / 64) then 0 else ⊥ : EReal) := by
  refine Eq.trans ?_ (E.gate ⟨H, hh⟩ k n)
  subst hH
  blk_ext [iblk2, idx3 t]

include hI E in
/-- The block written at a grid point. -/
theorem block (t : Fin cfg2.N) (H J : ℕ) (hH : (grid2.coords t 0).val = H) (hJ : (grid2.coords t 1).val = J) (z : Fin 1) (d : Fin 128) (q : Fin 256) :
    outsAt2 V c t (ix3 z d q) = Spec.ctx I H (256 * J + q) d := by
  have hh : H < 16 := hH ▸ (grid2.coords t 0).isLt
  have hi : J < 8 := hJ ▸ (grid2.coords t 1).isLt
  refine (AttnLoop.out_at c (grid2.coords t) (ms2_0 t) (hs2_0 t) (ms2_1 t) (hs2_1 t) (ms2_2 t) (hs2_2 t) (ms2_3 t) (hs2_3 t) (ms2_4 t) (hs2_4 t)
    (iblk2 V c 0 t) (iblk2 V c 1 t) (iblk2 V c 2 t) (iblk2 V c 3 t) (raw := raw I H (256 * J + q))
    (b := fun k => Spec.score I H (256 * J + q) k * (((Real.log 2)⁻¹ : ℝ) : EReal)) (u := fun k => Spec.v I (H / 4) k d) q d
    (fun k => ?_) (fun k => blk2 E t H hH hh k d) (scaled_ne_top hI _ _) (fun k hk => ?_) (fun a => ?_) z).trans ?_
  · exact raw_at hI _ _ _ _ _ _ _ (blk1 E t H hH hh k) (blk0 E t H J hH hJ hh hi q) (blk3 E t H hH hh k) (by rw [hJ]; omega) (by rw [hJ]; omega)
  · exact (raw_of_le _ _ _ (by omega)).symm
  · rw [hJ]
    by_cases ha : (a : ℕ) ≤ q
    · rw [if_pos ha]
      exact raw_of_le _ _ _ (by omega)
    · rw [if_neg ha, score_of_lt _ _ _ (by omega), EReal.bot_mul_coe_of_pos log_pos']
  · rw [hJ]
    exact finish hI H (256 * J + q) d (256 * J + 256) (by omega) (by omega)

include hI E in
theorem arr : (dat2 V c).arrAt 4 cfg2.N = fun y => Spec.ctx I (y 0).val (y 2).val (y 1).val := by
  refine (dat2 V c).arrAt_eq_of_covers 4 _ (by decide +kernel) fun t hf y => ?_
  blk_simp
  rw [after2_4]
  obtain ⟨z, d, q, rfl⟩ : ∃ (z : Fin 1) (d : Fin 128) (q : Fin 256), y = ix3 z d q := ⟨y 0, y 1, y 2, eq_ix3 y⟩
  refine (block hI E t _ _ rfl rfl z d q).trans ?_
  rw [idx4 t]
  refine congrArg₂ (Spec.ctx I _) ?_ ?_
  · exact (congrArg (· + q.val) (mul_comm 256 _))
  · exact (by omega : d.val = 0 * 128 + d.val)

end Cert.AttnRegion
end
-- ==== Proof.OutRegion.lean ====
/- The output projection's array: row `s`, lane `n` is the sum over the 2048 context lanes of the context times the weight. -/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.OutRegion

open Idealize.ShloMosaic Idealize.ShloMosaic.TcCoe Idealize.ShloMosaic.Tactic Cert.KernelIdeal Cert.KernelIdeal.Gen
open Idealize.ShloMosaic.Pipeline (Dat)

variable (V : (c : Dev nD) → (b : Ref sig .tc) → Buf (Elt Ideal) ((c : Thread nD τ).loc b)) (c : Dev nD)

/-- One block of the projection: the context block, its heads and lanes joined, against the weight. -/
theorem pay_at (x : Vec Ideal S16x128x256 .bf16) (w : Vec Ideal S2048x2048 .bf16) (a : Fin 256) (n : Fin 2048) :
    k3_pay1 x w (ix2 a n) = ∑ k : Fin 2048, x (ix3 ⟨k / 128, by omega⟩ ⟨k % 128, by omega⟩ a) * w (ix2 k n) := by
  pointwise [k3_pay1]

theorem idx0 : ∀ t, win3_0.index t = ![0, 0, (grid3.coords t 0).val] := by decide +kernel
theorem idx1 : ∀ t, win3_1.index t = ![0, 0] := by decide +kernel
theorem idx2 : ∀ t, win3_2.index t = ![(grid3.coords t 0).val, 0] := by decide +kernel

theorem arr_at (O : ℕ → ℕ → ℕ → EReal) (w : ℕ → ℕ → EReal)
    (hO : ∀ (h : Fin 16) (d : Fin 128) (s : Fin 2048), V c main_v11 (ix3 h d s) = O h s d)
    (hw : ∀ i j : Fin 2048, V c main_v12 (ix2 i j) = w i j) :
    (dat3 V c).arrAt 2 cfg3.N = fun y => ∑ k : Fin 2048, O (k / 128) (y 0).val (k % 128) * w k (y 1).val := by
  refine (dat3 V c).arrAt_eq_of_covers 2 _ (by decide +kernel) fun t hf y => ?_
  blk_simp
  rw [after3_2]
  frame_out
  obtain ⟨a, n, rfl⟩ : ∃ (a : Fin 256) (n : Fin 2048), y = ix2 a n := ⟨y 0, y 1, eq_ix2 y⟩
  have ht : (grid3.coords t 0).val < 8 := (grid3.coords t 0).isLt
  have e0 : ∀ k : Fin 2048, iblk3 V c 0 t (ix3 ⟨k / 128, by omega⟩ ⟨k % 128, by omega⟩ a)
      = V c main_v11 (ix3 ⟨k / 128, by omega⟩ ⟨k % 128, by omega⟩ ⟨(grid3.coords t 0).val * 256 + a, by omega⟩) := by
    intro k
    blk_ext [iblk3, idx0 t]
  have e1 : ∀ k : Fin 2048, iblk3 V c 1 t (ix2 k n) = V c main_v12 (ix2 k n) := by intro k; blk_ext [iblk3, idx1 t]
  refine (pay_at (iblk3 V c 0 t) (iblk3 V c 1 t) a n).trans ?_
  simp only [e0, e1, hO, hw, idx2 t]
  simp

end Cert.OutRegion
end
-- ==== Proof.KernelValue.lean ====
/- The kernel's result: the four kernels' arrays followed through the run, from the arguments to the result array. -/
module

public import proofs.«01_k».proof.Proof.Host
public import proofs.«01_k».proof.Proof.ProjRegion
public import proofs.«01_k».proof.Proof.GateRegion
public import proofs.«01_k».proof.Proof.AttnRegion
public import proofs.«01_k».proof.Proof.OutRegion

@[expose] public section

set_option maxRecDepth 16384

noncomputable section

namespace Cert.KernelValue

open Idealize.ShloMosaic Idealize.ShloMosaic.TcCoe Idealize.ShloMosaic.Tactic Cert.KernelIdeal Cert.KernelIdeal.Gen
open Cert.Spec (N1 N2 N1_at N2_at N3_at Inp)
open Cert.Host (inp L)
open Cert.ProjBlock (qscale)

variable (m : (ℓ : Loc nD τ sig) → Buf (Elt Ideal) ℓ) (ρ : Dev nD → PrngReg) (c : Dev nD)

/-- The projection is entered with the arguments laid out. -/
theorem proj : ProjRegion.Entry (V1 m ρ) c (L (inp m c)) (inp m c).cos (inp m c).sin where
  lin := by
    rintro X W B rfl rfl rfl s n
    refine (congrArg₂ (fun x y : EReal => x + y) (Finset.sum_congr rfl fun k _ =>
      congrArg₂ (fun x y : EReal => x * y) (Host.x_at m ρ c s k) (Host.w_at m ρ c k n)) (Host.b_at m ρ c n)).trans ?_
    unfold Host.L Spec.lin
    split
    · rfl
    · split <;> rfl
  cos := fun s d => (congrFun (W1_args m ρ c main_arg1 (by decide)) (ix2 s d)).trans (N2_at (m ((c : Thread nD τ).loc main_arg1)) s d)
  sin := fun s d => (congrFun (W1_args m ρ c main_arg2 (by decide)) (ix2 s d)).trans (N2_at (m ((c : Thread nD τ).loc main_arg2)) s d)

/-- An array the projection leaves is still there at the gate's entry. -/
theorem keep1 (r : Ref sig .tc) (h : r ∉ hostOps1_W) (h1 : r ∉ hostOps1_1_W) (h2 : r ∉ hostOps1_2_W) :
    W5 m ρ c (Proc.devRef .tc r) = W2 m ρ c (Proc.devRef .tc r) :=
  (W5_of m ρ c r h2).trans ((W4_of m ρ c r h1).trans (W3_of m ρ c r h))

/-- An array the projection leaves is still there at the attention's entry. -/
theorem keep2 (r : Ref sig .tc) (h : r ∉ hostOps1_W) (h1 : r ∉ hostOps1_1_W) (h2 : r ∉ hostOps1_2_W)
    (h3 : ∀ w : Fin cfg1.W, Pipeline.arrRef spec1 w = r → (cfg1.win w).isOut = false) :
    W6 m ρ c (Proc.devRef .tc r) = W2 m ρ c (Proc.devRef .tc r) :=
  (W6_of m ρ c r h3).trans (keep1 m ρ c r h h1 h2)

/-- The rotation reads the lanes below 128 only, and so does the pooling. -/
theorem rope_congr {u u' : ℕ → EReal} (c s : ℕ → EReal) (h : ∀ d, d < 128 → u d = u' d) (d : ℕ) (hd : d < 128) :
    Spec.rope u c s d = Spec.rope u' c s d := by
  have hr : Spec.rot u d = Spec.rot u' d := by
    unfold Spec.rot
    split
    · rw [h _ (by omega)]
    · exact h _ (by omega)
  rw [Spec.rope, Spec.rope, h d hd, hr]
theorem pool_congr {u u' : ℕ → ℕ → EReal} (h : ∀ a d, d < 128 → u a d = u' a d) (b d : ℕ) (hd : d < 256) : Spec.pool u b d = Spec.pool u' b d := by
  unfold Spec.pool
  split
  · exact congrArg (Ideal.div · Spec.c64) (Finset.sum_congr rfl fun r _ => h _ _ (by omega))
  · exact Finset.sup_congr rfl fun r _ => h _ _ (by omega)

/-- The five arrays the projection leaves. -/
theorem q_at (h : Fin 16) (s : Fin 2048) (d : Fin 128) : W2 m ρ c (Proc.devRef .tc main_v4_0) (ix3 h s d) = Spec.qr (inp m c) h s d * qscale :=
  (congrFun (W2_arr m ρ c 5) (ix3 h s d)).trans ((congrFun (ProjRegion.q_arr (proj m ρ c)) (ix3 h s d)).trans
    (congrArg (· * qscale) (rope_congr _ _ (fun d hd => Host.L_q (inp m c) h s d (by omega)) d d.isLt)))
theorem k_at (g : Fin 4) (s : Fin 2048) (d : Fin 128) : W2 m ρ c (Proc.devRef .tc main_v4_1) (ix3 g s d) = Spec.kr (inp m c) g s d :=
  (congrFun (W2_arr m ρ c 6) (ix3 g s d)).trans ((congrFun (ProjRegion.k_arr (proj m ρ c)) (ix3 g s d)).trans
    (rope_congr _ _ (fun d hd => Host.L_k (inp m c) g s d (by omega)) d d.isLt))
theorem v_at (g : Fin 4) (s : Fin 2048) (d : Fin 128) : W2 m ρ c (Proc.devRef .tc main_v4_2) (ix3 g s d) = Spec.v (inp m c) g s d :=
  (congrFun (W2_arr m ρ c 7) (ix3 g s d)).trans ((congrFun (ProjRegion.v_arr (proj m ρ c)) (ix3 g s d)).trans (Host.L_v (inp m c) g s d))
theorem qp_at (i : Fin 32) (h : Fin 16) (k : Fin 256) : W2 m ρ c (Proc.devRef .tc main_v4_3) (ix3 i h k) = Spec.pool (Spec.q (inp m c) h) i k :=
  (congrFun (W2_arr m ρ c 8) (ix3 i h k)).trans ((congrFun (ProjRegion.qp_arr (proj m ρ c)) (ix3 i h k)).trans
    (pool_congr (fun a d hd => Host.L_q (inp m c) h a d (by omega)) i k k.isLt))
theorem kp_at (i : Fin 32) (h : Fin 4) (k : Fin 256) : W2 m ρ c (Proc.devRef .tc main_v4_4) (ix3 i h k) = Spec.pool (Spec.k (inp m c) h) i k :=
  (congrFun (W2_arr m ρ c 9) (ix3 i h k)).trans ((congrFun (ProjRegion.kp_arr (proj m ρ c)) (ix3 i h k)).trans
    (pool_congr (fun a d hd => Host.L_k (inp m c) h a d (by omega)) i k k.isLt))

/-- The gate is entered with the pooled rows, its matrices and the table. -/
theorem gate : GateRegion.Entry (V5 m ρ) c (inp m c) where
  qp := fun i h k => (congrFun (keep1 m ρ c main_v4_3 (by decide) (by decide) (by decide)) (ix3 i h k)).trans (qp_at m ρ c i h k)
  kp := fun i h k => (congrFun (keep1 m ρ c main_v4_4 (by decide) (by decide) (by decide)) (ix3 i h k)).trans (kp_at m ρ c i h k)
  wqg := fun w hw => congrArg N2 (hw.trans (W5_args m ρ c main_arg12 (by decide)))
  wkg := fun w hw => congrArg N2 (hw.trans (W5_args m ρ c main_arg13 (by decide)))
  bcos := fun w hw => congrArg N2 (hw.trans (W5_args m ρ c main_arg3 (by decide)))
  bsin := fun w hw => congrArg N2 (hw.trans (W5_args m ρ c main_arg4 (by decide)))
  tbl := fun n k => Host.tbl_at m ρ c n k

/-- The attention is entered with the rotated rows, the values and the gate's mask. -/
theorem attn : AttnRegion.Entry (V6 m ρ) c (inp m c) where
  q := fun h s d => (congrFun (keep2 m ρ c main_v4_0 (by decide) (by decide) (by decide) (by decide +kernel)) (ix3 h s d)).trans (q_at m ρ c h s d)
  k := fun g s d => (congrFun (keep2 m ρ c main_v4_1 (by decide) (by decide) (by decide) (by decide +kernel)) (ix3 g s d)).trans (k_at m ρ c g s d)
  v := fun g s d => (congrFun (keep2 m ρ c main_v4_2 (by decide) (by decide) (by decide) (by decide +kernel)) (ix3 g s d)).trans (v_at m ρ c g s d)
  gate := fun h t n => (congrFun (W6_arr m ρ c 7) (ix3 h t n)).trans (congrFun (GateRegion.arr (gate m ρ c)) (ix3 h t n))

variable (hI : ∀ h s t, ∃ r : ℝ, Spec.dot (inp m c) h s t = r)

include hI in
/-- The attention's array at the output projection's entry. -/
theorem ctx_at (h : Fin 16) (d : Fin 128) (s : Fin 2048) : W8 m ρ c (Proc.devRef .tc main_v11) (ix3 h d s) = Spec.ctx (inp m c) h s d :=
  (congrFun (W8_of m ρ c main_v11 (by decide)) (ix3 h d s)).trans
    ((congrFun (W7_arr m ρ c 4) (ix3 h d s)).trans (congrFun (AttnRegion.arr hI (attn m ρ c)) (ix3 h d s)))

include hI in
/-- The result array. -/
theorem result : W10 m ρ c (Proc.devRef .tc main_v14) = fun i : S1x2048x2048.Idx => Spec.out (inp m c) (i 1).val (i 2).val := by
  funext i
  obtain ⟨a, s, n, rfl⟩ : ∃ (a : Fin 1) (s n : Fin 2048), i = ix3 a s n := ⟨i 0, i 1, i 2, eq_ix3 i⟩
  obtain rfl : a = 0 := Subsingleton.elim _ _
  exact (Host.out_at m ρ c s n).trans ((congrFun (W9_arr m ρ c 2) (ix2 s n)).trans
    (congrFun (OutRegion.arr_at (V8 m ρ) c (fun h s d => Spec.ctx (inp m c) h s d) (inp m c).wo (ctx_at m ρ c hI) (Host.wo_at m ρ c)) (ix2 s n)))

end Cert.KernelValue
end
-- ==== Proof.RefValue.lean ====
/- What the reference computes, read at an index: the specification's functions of the arguments. -/
module

public import proofs.«01_k».proof.Proof.Gen.ReferenceIdeal.Run
public import proofs.«01_k».proof.Proof.Spec
public import proofs.«01_k».proof.Proof.Scalars
public import Idealize.ShloMosaic.Lib.Pipeline.ValueKit

@[expose] public section
set_option maxRecDepth 16384
noncomputable section
namespace Cert.RefValue
open Idealize.ShloMosaic Cert.ReferenceIdeal Cert.ReferenceIdeal.Value Cert.ReferenceIdeal.Gen
open Cert.Spec (N1 N2 N1_at N2_at N3_at Inp)
attribute [local instance] Cert.ReferenceIdeal.Gen.facts

variable (V0 : Valuation τ sig (Elt Ideal))

/-- The reference's arguments as functions. -/
def inp : Inp := Inp.of (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5))
  (V0 (Proc.devRef .tc main_arg6)) (V0 (Proc.devRef .tc main_arg7)) (V0 (Proc.devRef .tc main_arg8))
  (V0 (Proc.devRef .tc main_arg9)) (V0 (Proc.devRef .tc main_arg10)) (V0 (Proc.devRef .tc main_arg11))
  (V0 (Proc.devRef .tc main_arg12)) (V0 (Proc.devRef .tc main_arg13))

theorem at0 (i : Fin 2048) (j : Fin 2048) : V0 (Proc.devRef .tc main_arg0) (ix3 0 i j) = (inp V0).x i j := N3_at _ i j
theorem at1 (i : Fin 2048) (j : Fin 128) : V0 (Proc.devRef .tc main_arg1) (ix2 i j) = (inp V0).cos i j := N2_at _ i j
theorem at2 (i : Fin 2048) (j : Fin 128) : V0 (Proc.devRef .tc main_arg2) (ix2 i j) = (inp V0).sin i j := N2_at _ i j
theorem at3 (i : Fin 32) (j : Fin 128) : V0 (Proc.devRef .tc main_arg3) (ix2 i j) = (inp V0).bcos i j := N2_at _ i j
theorem at4 (i : Fin 32) (j : Fin 128) : V0 (Proc.devRef .tc main_arg4) (ix2 i j) = (inp V0).bsin i j := N2_at _ i j
theorem at5 (i : Fin 2048) (j : Fin 2048) : V0 (Proc.devRef .tc main_arg5) (ix2 i j) = (inp V0).wq i j := N2_at _ i j
theorem at6 (i : Fin 2048) : V0 (Proc.devRef .tc main_arg6) (ix1 i) = (inp V0).bq i := N1_at _ i
theorem at7 (i : Fin 2048) (j : Fin 512) : V0 (Proc.devRef .tc main_arg7) (ix2 i j) = (inp V0).wk i j := N2_at _ i j
theorem at8 (i : Fin 512) : V0 (Proc.devRef .tc main_arg8) (ix1 i) = (inp V0).bk i := N1_at _ i
theorem at9 (i : Fin 2048) (j : Fin 512) : V0 (Proc.devRef .tc main_arg9) (ix2 i j) = (inp V0).wv i j := N2_at _ i j
theorem at10 (i : Fin 512) : V0 (Proc.devRef .tc main_arg10) (ix1 i) = (inp V0).bv i := N1_at _ i
theorem at11 (i : Fin 2048) (j : Fin 2048) : V0 (Proc.devRef .tc main_arg11) (ix2 i j) = (inp V0).wo i j := N2_at _ i j
theorem at12 (i : Fin 256) (j : Fin 128) : V0 (Proc.devRef .tc main_arg12) (ix2 i j) = (inp V0).wqg i j := N2_at _ i j
theorem at13 (i : Fin 256) (j : Fin 128) : V0 (Proc.devRef .tc main_arg13) (ix2 i j) = (inp V0).wkg i j := N2_at _ i j

theorem q_at (s : Fin 2048) (h : Fin 16) (d : Fin 128) : res_main_v4 V0 (ix4 0 s h d) = Spec.q (inp V0) h s d := by
  pointwise [res_main_v4]
  simp only [at0, at5, at6]; rfl

theorem k_at (s : Fin 2048) (h : Fin 4) (d : Fin 128) : res_main_v9 V0 (ix4 0 s h d) = Spec.k (inp V0) h s d := by
  pointwise [res_main_v9]
  simp only [at0, at7, at8]; rfl

/-- A maximum over the third of five axes. -/
theorem fold5 {n1 n2 n3 n4 : ℕ} (h : (⟨5, ![1, n1, n2, n3, n4]⟩ : Shape).ReducesTo [2] ⟨4, ![1, n1, n3, n4]⟩) (v : _ → EReal)
    (a : Fin n1) (b : Fin n3) (c : Fin n4) :
    (Finset.univ.filter fun i => h.drop i = ix4 0 a b c).fold max (Ideal.ofBits .f32 0xFF800000#32) v
      = Finset.univ.sup fun r : Fin n2 => v (ix5 0 a r b c) := by
  rw [← Scalars.fold_max]
  refine Finset.fold_filter_eq_fold_of_fiber max _ (fun r : Fin n2 => ix5 0 a r b c) (fun x y e => show (ix5 0 a x b c : (⟨5, ![1, n1, n2, n3, n4]⟩ : Shape).Idx) 2 = (ix5 0 a y b c : (⟨5, ![1, n1, n2, n3, n4]⟩ : Shape).Idx) 2 from congrFun e 2) (fun i => ?_) _ v
  constructor
  · intro e
    refine ⟨i 2, ?_⟩
    funext x; apply Fin.ext
    match x with
    | ⟨0, _⟩ => exact (congrArg Fin.val (congrFun e 0)).symm
    | ⟨1, _⟩ => exact (congrArg Fin.val (congrFun e 1)).symm
    | ⟨2, _⟩ => rfl
    | ⟨3, _⟩ => exact (congrArg Fin.val (congrFun e 2)).symm
    | ⟨4, _⟩ => exact (congrArg Fin.val (congrFun e 3)).symm
  · rintro ⟨k, rfl⟩
    funext x; apply Fin.ext
    match x with
    | ⟨0, _⟩ => rfl
    | ⟨1, _⟩ => rfl
    | ⟨2, _⟩ => rfl
    | ⟨3, _⟩ => rfl

/-- A maximum over the last of four axes. -/
theorem fold4 {n1 n2 n3 : ℕ} (h : (⟨4, ![1, n1, n2, n3]⟩ : Shape).ReducesTo [3] ⟨3, ![1, n1, n2]⟩) (v : _ → EReal)
    (a : Fin n1) (b : Fin n2) :
    (Finset.univ.filter fun i => h.drop i = ix3 0 a b).fold max (Ideal.ofBits .f32 0xFF800000#32) v
      = Finset.univ.sup fun r : Fin n3 => v (ix4 0 a b r) := by
  rw [← Scalars.fold_max]
  exact h.fold_fiber_r4_a3 (ix3 0 a b) max _ v

theorem qg_at (b : Fin 32) (h : Fin 16) (g : Fin 128) : res_main_v27 V0 (ix4 0 b h g) = Spec.qg (inp V0) h b g := by
  pointwise [res_main_v27, res_main_v15]
  simp only [q_at, at12]
  rw [Spec.qg, Spec.gproj_split]
  refine congrArg₂ (· + ·) rfl (Finset.sum_congr rfl fun x _ => congrArg (· * _) ((fold5 _ _ b h x).trans ?_))
  exact Finset.sup_congr rfl fun r _ => q_at V0 _ _ _

theorem kg_at (b : Fin 32) (h : Fin 4) (g : Fin 128) : res_main_v28 V0 (ix4 0 b h g) = Spec.kg (inp V0) h b g := by
  pointwise [res_main_v28, res_main_v21]
  simp only [k_at, at13]
  rw [Spec.kg, Spec.gproj_split]
  refine congrArg₂ (· + ·) rfl (Finset.sum_congr rfl fun x _ => congrArg (· * _) ((fold5 _ _ b h x).trans ?_))
  exact Finset.sup_congr rfl fun r _ => k_at V0 _ _ _

theorem glogit_at (h : Fin 16) (i j : Fin 32) : res_main_v58 V0 (ix4 0 h i j) = Spec.glogit (inp V0) h i j := by
  pointwise [res_main_v58, res_main_v56, res_main_v29, res_main_v30]
  simp only [qg_at, kg_at, at3, at4, Scalars.addi_zero]
  rw [Scalars.sge_small _ _ (by omega) (by omega), Scalars.select_one_zero, Scalars.select_bit, Spec.glogit]
  simp only [Spec.qgr, Spec.kgr, Spec.rope_split]
  exact congrArg _ Scalars.ofBits_ninf

/-- A row's maximum as the host takes it. -/
theorem row_max {n : ℕ} (h : (⟨4, ![1, 16, n, n]⟩ : Shape).ReducesTo [3] ⟨3, ![1, 16, n]⟩) (hu : 0 < S_.numel)
    (A : FVec Ideal ⟨4, ![1, 16, n, n]⟩ .f32) (f : ℕ → ℕ → ℕ → EReal) (hf : ∀ a (i j : Fin n), A (ix4 0 a i j) = f a i j)
    (a : Fin 16) (i : Fin n) :
    Host.reduce FloatOps.maximumf A (constant S_ .f32 0xFF800000#32) h hu (ix3 0 a i)
      = Finset.univ.sup fun t : Fin n => f a i t := by
  rw [Host.reduce_eq_fold]
  refine (fold4 h A a i).trans ?_
  simp only [hf]

/-- An entry less its row's largest, under the exponential. -/
theorem gexp_at (h : Fin 16) (i j : Fin 32) : res_main_v65 V0 (ix4 0 h i j) = Spec.gexp (inp V0) h i j := by
  have hM := row_max reducesTo_S1x16x32x32_S1x16x32_d3 h_S_ (res_main_v58 V0) (Spec.glogit (inp V0)) (glogit_at V0) h i
  unfold res_main_v65
  generalize Host.reduce FloatOps.maximumf (res_main_v58 V0) _ _ _ = M at *
  pointwise
  rw [hM, glogit_at, Scalars.ofBits_ninf, max_eq_right bot_le]; rfl

end Cert.RefValue
end
-- ==== Proof.RefScore.lean ====
/- The reference's attention read at an index: its masked scores and weights, and the result. -/
module

public import proofs.«01_k».proof.Proof.RefValue

@[expose] public section

set_option maxRecDepth 16384

noncomputable section

namespace Cert.RefValue

open Idealize.ShloMosaic Cert.ReferenceIdeal Cert.ReferenceIdeal.Value Cert.ReferenceIdeal.Gen
open Cert.Spec (N1 N2 N1_at N2_at N3_at Inp)
attribute [local instance] Cert.ReferenceIdeal.Gen.facts

variable (V0 : Valuation τ sig (Elt Ideal))

/-- The reference's masked attention scores. -/
theorem score_at (h : Fin 16) (s t : Fin 2048) : res_main_v120 V0 (ix4 0 h s t) = Spec.score (inp V0) h s t := by
  pointwise [res_main_v120, res_main_v56, res_main_v92, res_main_v93]
  simp only [q_at, k_at, at1, at2, Scalars.addi_zero, gexp_at]
  rw [Scalars.sge_small _ _ (by omega) (by omega), Scalars.sge_small _ _ (by omega) (by omega), Scalars.eq_small _ _ (by omega) (by omega), Scalars.select_one_zero, Scalars.select_one_zero, Scalars.ori_bool, Scalars.andi_bool, Scalars.andi_bool, Scalars.select_bool, Spec.score]
  simp only [Spec.dot, Spec.qr, Spec.kr, Spec.rope_split, Spec.sel]
  refine if_congr ?_ rfl Scalars.ofBits_ninf
  simp only [Bool.and_eq_true, Bool.or_eq_true, decide_eq_true_eq, and_assoc]

/-- An entry less its row's maximum, under the exponential, as the reference spells it. -/
theorem exp_sub_row (A : FVec Ideal S1x16x2048x2048 .f32) (M : FVec Ideal S1x16x2048 .f32) (h : Fin 16) (i j : Fin 2048) :
    Host.exp (subf A (broadcastInDim S1x16x2048x2048 ![0, 1, 2, 3] bcast_S1x16x2048x1_S1x16x2048x2048_0_1_2_3
      (broadcastInDim S1x16x2048x1 ![0, 1, 2] bcast_S1x16x2048_S1x16x2048x1_0_1_2
        (maximumf (broadcastInDim S1x16x2048 ![] bcast_S_S1x16x2048 (constant S_ .f32 0xFF800000#32)) M)))) (ix4 0 h i j)
      = Ideal.exp (A (ix4 0 h i j) - max (Ideal.ofBits .f32 0xFF800000#32) (M (ix3 0 h i))) := by
  pointwise

/-- The reference's unnormalized attention weights. -/
theorem aexp_at (h : Fin 16) (i j : Fin 2048) : res_main_v127 V0 (ix4 0 h i j) = Spec.aexp (inp V0) h i j := by
  have hM := row_max reducesTo_S1x16x2048x2048_S1x16x2048_d3 h_S_ (res_main_v120 V0) (Spec.score (inp V0)) (score_at V0) h i
  unfold res_main_v127
  refine (exp_sub_row (res_main_v120 V0) _ h i j).trans ?_
  rw [hM, score_at, Scalars.ofBits_ninf, max_eq_right bot_le]
  rfl

/-- The reference's result at token `s`, lane `n`. -/
theorem result_at (E : FVec Ideal S1x16x2048x2048 .f32) (hE : ∀ (h : Fin 16) (i j : Fin 2048), E (ix4 0 h i j) = Spec.aexp (inp V0) h i j) (s n : Fin 2048) :
    Host.dotGeneral (φ₁ := .f32) (φ₂ := .f32) dot_S1x2048x2048_S2048x2048_S1x2048x2048_2_0_01_1_n_n none
      (shapeCast _ (transpose S1x2048x16x128 [0, 3, 1, 2]
        (Host.dotGeneral (φ₁ := .f32) (φ₂ := .f32) dot_S1x2048x16x128_S1x16x2048x2048_S1x16x128x2048_1_3_3_2_02_01 none
          (shapeCast _ (broadcastInDim S1x2048x4x4x128 ![0, 1, 2, 4] bcast_S1x2048x4x128_S1x2048x4x4x128_0_1_2_4
            (shapeCast _ (addf (Host.dotGeneral (φ₁ := .f32) (φ₂ := .f32) dot_S1x2048x2048_S2048x512_S1x2048x512_2_0_01_1_n_n none (V0 (Proc.devRef .tc main_arg0)) (V0 (Proc.devRef .tc main_arg9)))
              (broadcastInDim S1x2048x512 ![0, 1, 2] bcast_S1x1x512_S1x2048x512_0_1_2 (broadcastInDim S1x1x512 ![2] bcast_S512_S1x1x512_2 (V0 (Proc.devRef .tc main_arg10))))) shapeCasts_S1x2048x512_S1x2048x4x128)) shapeCasts_S1x2048x4x4x128_S1x2048x16x128)
          (Host.divf E (broadcastInDim S1x16x2048x2048 ![0, 1, 2, 3] bcast_S1x16x2048x1_S1x16x2048x2048_0_1_2_3
            (broadcastInDim S1x16x2048x1 ![0, 1, 2] bcast_S1x16x2048_S1x16x2048x1_0_1_2
              (Host.reduceAdd E (constant S_ .f32 0x00000000#32) reducesTo_S1x16x2048x2048_S1x16x2048_d3 h_S_)))))
        transposes_S1x16x128x2048_S1x2048x16x128_0_3_1_2) shapeCasts_S1x2048x16x128_S1x2048x2048) (V0 (Proc.devRef .tc main_arg11)) (ix3 0 s n) = Spec.out (inp V0) s n := by
  pointwise
  simp only [hE, at0, at9, at10, at11]
  rfl

end Cert.RefValue
end
-- ==== Proof.Algebraic.lean ====
/- The value claim: under the precondition the idealized kernel and the reference, launched on the same arguments, end with the same
   result. Both results are read as the same function of the arguments, `Spec.out`. -/
module

public import proofs.«01_k».proof.Defs
public import proofs.«01_k».proof.Proof.Finite
public import proofs.«01_k».proof.Proof.KernelRun
public import proofs.«01_k».proof.Proof.KernelValue
public import proofs.«01_k».proof.Proof.RefScore

@[expose] public section

set_option maxRecDepth 16384

noncomputable section

namespace Cert.Algebraic

open Idealize.ShloMosaic Idealize.ShloMosaic.TcCoe Idealize.SL.Sem

attribute [local instance] Cert.KernelIdeal.Gen.facts Cert.ReferenceIdeal.Gen.facts Cert.Pre_finite.Gen.facts

/-- The result both programs are shown to leave. -/
def result (m : (ℓ : Loc KernelIdeal.nD KernelIdeal.τ KernelIdeal.sig) → Buf (Elt Ideal) ℓ) (c : Dev KernelIdeal.nD) :
    KernelIdeal.S1x2048x2048.Idx → EReal := fun i => Spec.out (Host.inp m c) (i 1).val (i 2).val

/-- The reference's result, read at an index. -/
theorem ref_result (V0 : Valuation ReferenceIdeal.τ ReferenceIdeal.sig (Elt Ideal)) (i : ReferenceIdeal.S1x2048x2048.Idx)
    {A : ReferenceIdeal.S1x2048x2048.Idx → EReal}
    (h : ∀ s n : Fin 2048, A (ix3 0 s n) = Spec.out (RefValue.inp V0) s n) : A i = Spec.out (RefValue.inp V0) (i 1).val (i 2).val := by
  obtain ⟨a, s, n, rfl⟩ : ∃ (a : Fin 1) (s n : Fin 2048), i = ix3 a s n := ⟨i 0, i 1, i 2, eq_ix3 i⟩
  obtain rfl : a = 0 := Subsingleton.elim _ _
  exact h s n

/-- Kernel and reference leave the same result array, and their arguments as they were. -/
theorem algebraic : Cert.algebraic_KernelIdeal_ReferenceIdeal_pre_finite := by
  intro m g m' g' hm hargs
  refine ⟨result m, ?_, ?_⟩
  · exact (θ_run _ _ _).mono (fun r h c => ⟨(h c).1.trans (KernelValue.result m g c (Finite.dot_real m hm c)), (h c).2⟩)
      (KernelRun.run m g)
  · refine (θ_run _ _ _).mono (fun r h c => ⟨(h c).1.trans ?_, (h c).2⟩) (ReferenceIdeal.Value.run (F := Ideal) m' g')
    have hinp : RefValue.inp (StableHlo.launchContents m' c) = Host.inp m c := by
      obtain ⟨h0, h1, h2, h3, h4, h5, h6, h7, h8, h9, h10, h11, h12, h13⟩ := hargs c
      simp only [RefValue.inp, Host.inp]
      congr 1
    funext i
    refine (ref_result (StableHlo.launchContents m' c) i (RefValue.result_at _ _ (RefValue.aexp_at _))).trans ?_
    rw [hinp]
    rfl

end Cert.Algebraic
end
-- ==== Proof.lean ====
/- The certificate's claim: the frames, the named constants and the value claim, put together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.Gen.facts,
   Frames.frame_p, Frames.frame_pi, Frames.frame_pi_finite, Frames.frame_ri, Frames.frame_ri_finite, Frames.preserves,
   Algebraic.algebraic⟩

end Cert.Proof

end
